-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S1024x8192 : Shape := ⟨2, ![1024, 8192]⟩
abbrev S4x1024x2048 : Shape := ⟨3, ![4, 1024, 2048]⟩
abbrev S3x1024x2048 : Shape := ⟨3, ![3, 1024, 2048]⟩
abbrev S2x4096x1024 : Shape := ⟨3, ![2, 4096, 1024]⟩
abbrev S8x128 : Shape := ⟨2, ![8, 128]⟩
abbrev S3x8x128 : Shape := ⟨3, ![3, 8, 128]⟩
abbrev S2 : Shape := ⟨1, ![2]⟩
abbrev S3 : Shape := ⟨1, ![3]⟩
abbrev S_ : Shape := ⟨0, ![]⟩
abbrev S1 : Shape := ⟨1, ![1]⟩
abbrev S1x4096x1024 : Shape := ⟨3, ![1, 4096, 1024]⟩
abbrev S4096x1024 : Shape := ⟨2, ![4096, 1024]⟩
abbrev S1024x1024 : Shape := ⟨2, ![1024, 1024]⟩
abbrev S1x1024x1024 : Shape := ⟨3, ![1, 1024, 1024]⟩
abbrev S1x1x1 : Shape := ⟨3, ![1, 1, 1]⟩
abbrev S1x8x128 : Shape := ⟨3, ![1, 8, 128]⟩
abbrev S1024x2048 : Shape := ⟨2, ![1024, 2048]⟩
abbrev S1x1024x2048 : Shape := ⟨3, ![1, 1024, 2048]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .bf16⟩
  | .hbm, ⟨2, _⟩ => ⟨S4096x2048, .bf16⟩
  | .local _ .vmem, ⟨0, _⟩ => ⟨S1024x4096, .bf16⟩
  | .local _ .vmem, ⟨1, _⟩ => ⟨S4096x2048, .bf16⟩
  | .local _ .vmem, ⟨2, _⟩ => ⟨S1024x8192, .f32⟩
  | .local _ .vmem, ⟨3, _⟩ => ⟨S4x1024x2048, .fp8e4m3⟩
  | .local _ .vmem, ⟨4, _⟩ => ⟨S3x1024x2048, .fp8e4m3⟩
  | .local _ .vmem, ⟨5, _⟩ => ⟨S2x4096x1024, .bf16⟩
  | .local _ .vmem, ⟨6, _⟩ => ⟨S8x128, .f32⟩
  | .local _ .vmem, ⟨7, _⟩ => ⟨S3x8x128, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_168 : BitVec 32 := 1#32
  let v225 : BitVec 32 := Scalar.addi v2 c1_i32_168
  let c4_i32_169 : BitVec 32 := 4#32
  let c0_i32_170 : BitVec 32 := 0#32
  let v226 : BitVec 1 := Scalar.cmpi .eq c4_i32_169 c0_i32_170
  let c1_i32_171 : BitVec 32 := 1#32
  let v227 : BitVec 32 := Scalar.select v226 c1_i32_171 c4_i32_169
  let v228 : BitVec 32 := Scalar.remsi v225 v227
  let c0_i32_173 : BitVec 32 := 0#32
  let v230 : BitVec 1 := Scalar.cmpi .slt v228 c0_i32_173
  let c0_i32_174 : BitVec 32 := 0#32
  let v231 : BitVec 1 := Scalar.cmpi .slt v227 c0_i32_174
  let v232 : BitVec 1 := Scalar.xori v230 v231
  let c0_i32_172 : BitVec 32 := 0#32
  let v229 : BitVec 1 := Scalar.cmpi .ne v228 c0_i32_172
  let v233 : BitVec 1 := Scalar.andi v232 v229
  let v234 : BitVec 32 := Scalar.addi v228 v227
  let v235 : BitVec 32 := Scalar.select v233 v234 v228
  let c1_i32_178 : BitVec 32 := 1#32
  let v236 : BitVec 32 := Scalar.muli v235 c1_i32_178
  let v237 : BitVec 32 := Scalar.addi c0_i32_179 v236
  v237.toNat
def k0_dev5 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_182 : BitVec 32 := 2#32
  let v244 : BitVec 32 := Scalar.addi v2 c2_i32_182
  let c4_i32_183 : BitVec 32 := 4#32
  let c0_i32_184 : BitVec 32 := 0#32
  let v245 : BitVec 1 := Scalar.cmpi .eq c4_i32_183 c0_i32_184
  let c1_i32_185 : BitVec 32 := 1#32
  let v246 : BitVec 32 := Scalar.select v245 c1_i32_185 c4_i32_183
  let v247 : BitVec 32 := Scalar.remsi v244 v246
  let c0_i32_187 : BitVec 32 := 0#32
  let v249 : BitVec 1 := Scalar.cmpi .slt v247 c0_i32_187
  let c0_i32_188 : BitVec 32 := 0#32
  let v250 : BitVec 1 := Scalar.cmpi .slt v246 c0_i32_188
  let v251 : BitVec 1 := Scalar.xori v249 v250
  let c0_i32_186 : BitVec 32 := 0#32
  let v248 : BitVec 1 := Scalar.cmpi .ne v247 c0_i32_186
  let v252 : BitVec 1 := Scalar.andi v251 v248
  let v253 : BitVec 32 := Scalar.addi v247 v246
  let v254 : BitVec 32 := Scalar.select v252 v253 v247
  let c1_i32_192 : BitVec 32 := 1#32
  let v255 : BitVec 32 := Scalar.muli v254 c1_i32_192
  let v256 : BitVec 32 := Scalar.addi c0_i32_193 v255
  v256.toNat
def k0_dev6 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_196 : BitVec 32 := 3#32
  let v263 : BitVec 32 := Scalar.addi v2 c3_i32_196
  let c4_i32_197 : BitVec 32 := 4#32
  let c0_i32_198 : BitVec 32 := 0#32
  let v264 : BitVec 1 := Scalar.cmpi .eq c4_i32_197 c0_i32_198
  let c1_i32_199 : BitVec 32 := 1#32
  let v265 : BitVec 32 := Scalar.select v264 c1_i32_199 c4_i32_197
  let v266 : BitVec 32 := Scalar.remsi v263 v265
  let c0_i32_201 : BitVec 32 := 0#32
  let v268 : BitVec 1 := Scalar.cmpi .slt v266 c0_i32_201
  let c0_i32_202 : BitVec 32 := 0#32
  let v269 : BitVec 1 := Scalar.cmpi .slt v265 c0_i32_202
  let v270 : BitVec 1 := Scalar.xori v268 v269
  let c0_i32_200 : BitVec 32 := 0#32
  let v267 : BitVec 1 := Scalar.cmpi .ne v266 c0_i32_200
  let v271 : BitVec 1 := Scalar.andi v270 v267
  let v272 : BitVec 32 := Scalar.addi v266 v265
  let v273 : BitVec 32 := Scalar.select v271 v272 v266
  let c1_i32_206 : BitVec 32 := 1#32
  let v274 : BitVec 32 := Scalar.muli v273 c1_i32_206
  let v275 : BitVec 32 := Scalar.addi c0_i32_207 v274
  v275.toNat
def k0_off1 (d0 : Dev nD) (c1_i32_289 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v379 : BitVec 32 := Scalar.addi v2 c1_i32_289
  let c4_i32_290 : BitVec 32 := 4#32
  let c0_i32_291 : BitVec 32 := 0#32
  let v380 : BitVec 1 := Scalar.cmpi .eq c4_i32_290 c0_i32_291
  let c1_i32_292 : BitVec 32 := 1#32
  let v381 : BitVec 32 := Scalar.select v380 c1_i32_292 c4_i32_290
  let v382 : BitVec 32 := Scalar.remsi v379 v381
  let c0_i32_294 : BitVec 32 := 0#32
  let v384 : BitVec 1 := Scalar.cmpi .slt v382 c0_i32_294
  let c0_i32_295 : BitVec 32 := 0#32
  let v385 : BitVec 1 := Scalar.cmpi .slt v381 c0_i32_295
  let v386 : BitVec 1 := Scalar.xori v384 v385
  let c0_i32_293 : BitVec 32 := 0#32
  let v383 : BitVec 1 := Scalar.cmpi .ne v382 c0_i32_293
  let v387 : BitVec 1 := Scalar.andi v386 v383
  let v388 : BitVec 32 := Scalar.addi v382 v381
  let v389 : BitVec 32 := Scalar.select v387 v388 v382
  let c0_i32_303 : BitVec 32 := 0#32
  let c0_i32_304 : BitVec 32 := 0#32
  ![v389.toNat, 0, 0]
def k0_dev7 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_289 : BitVec 32 := 1#32
  let v379 : BitVec 32 := Scalar.addi v2 c1_i32_289
  let c4_i32_290 : BitVec 32 := 4#32
  let c0_i32_291 : BitVec 32 := 0#32
  let v380 : BitVec 1 := Scalar.cmpi .eq c4_i32_290 c0_i32_291
  let c1_i32_292 : BitVec 32 := 1#32
  let v381 : BitVec 32 := Scalar.select v380 c1_i32_292 c4_i32_290
  let v382 : BitVec 32 := Scalar.remsi v379 v381
  let c0_i32_294 : BitVec 32 := 0#32
  let v384 : BitVec 1 := Scalar.cmpi .slt v382 c0_i32_294
  let c0_i32_295 : BitVec 32 := 0#32
  let v385 : BitVec 1 := Scalar.cmpi .slt v381 c0_i32_295
  let v386 : BitVec 1 := Scalar.xori v384 v385
  let c0_i32_293 : BitVec 32 := 0#32
  let v383 : BitVec 1 := Scalar.cmpi .ne v382 c0_i32_293
  let v387 : BitVec 1 := Scalar.andi v386 v383
  let v388 : BitVec 32 := Scalar.addi v382 v381
  let v389 : BitVec 32 := Scalar.select v387 v388 v382
  let c1_i32_299 : BitVec 32 := 1#32
  let v390 : BitVec 32 := Scalar.muli v389 c1_i32_299
  let v391 : BitVec 32 := Scalar.addi c0_i32_300 v390
  v391.toNat
def k0_dev8 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_305 : BitVec 32 := 2#32
  let v400 : BitVec 32 := Scalar.addi v2 c2_i32_305
  let c4_i32_306 : BitVec 32 := 4#32
  let c0_i32_307 : BitVec 32 := 0#32
  let v401 : BitVec 1 := Scalar.cmpi .eq c4_i32_306 c0_i32_307
  let c1_i32_308 : BitVec 32 := 1#32
  let v402 : BitVec 32 := Scalar.select v401 c1_i32_308 c4_i32_306
  let v403 : BitVec 32 := Scalar.remsi v400 v402
  let c0_i32_310 : BitVec 32 := 0#32
  let v405 : BitVec 1 := Scalar.cmpi .slt v403 c0_i32_310
  let c0_i32_311 : BitVec 32 := 0#32
  let v406 : BitVec 1 := Scalar.cmpi .slt v402 c0_i32_311
  let v407 : BitVec 1 := Scalar.xori v405 v406
  let c0_i32_309 : BitVec 32 := 0#32
  let v404 : BitVec 1 := Scalar.cmpi .ne v403 c0_i32_309
  let v408 : BitVec 1 := Scalar.andi v407 v404
  let v409 : BitVec 32 := Scalar.addi v403 v402
  let v410 : BitVec 32 := Scalar.select v408 v409 v403
  let c1_i32_315 : BitVec 32 := 1#32
  let v411 : BitVec 32 := Scalar.muli v410 c1_i32_315
  let v412 : BitVec 32 := Scalar.addi c0_i32_316 v411
  v412.toNat
def k0_dev9 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_321 : BitVec 32 := 3#32
  let v421 : BitVec 32 := Scalar.addi v2 c3_i32_321
  let c4_i32_322 : BitVec 32 := 4#32
  let c0_i32_323 : BitVec 32 := 0#32
  let v422 : BitVec 1 := Scalar.cmpi .eq c4_i32_322 c0_i32_323
  let c1_i32_324 : BitVec 32 := 1#32
  let v423 : BitVec 32 := Scalar.select v422 c1_i32_324 c4_i32_322
  let v424 : BitVec 32 := Scalar.remsi v421 v423
  let c0_i32_326 : BitVec 32 := 0#32
  let v426 : BitVec 1 := Scalar.cmpi .slt v424 c0_i32_326
  let c0_i32_327 : BitVec 32 := 0#32
  let v427 : BitVec 1 := Scalar.cmpi .slt v423 c0_i32_327
  let v428 : BitVec 1 := Scalar.xori v426 v427
  let c0_i32_325 : BitVec 32 := 0#32
  let v425 : BitVec 1 := Scalar.cmpi .ne v424 c0_i32_325
  let v429 : BitVec 1 := Scalar.andi v428 v425
  let v430 : BitVec 32 := Scalar.addi v424 v423
  let v431 : BitVec 32 := Scalar.select v429 v430 v424
  let c1_i32_331 : BitVec 32 := 1#32
  let v432 : BitVec 32 := Scalar.muli v431 c1_i32_331
  let v433 : BitVec 32 := Scalar.addi c0_i32_332 v432
  v433.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v442 : Index := Scalar.indexCast v2
  let c0_337 : Index := 0#32
  let c0_338 : Index := 0#32
  ![v442.toNat, 0, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_339 : BitVec 32 := 1024#32
  let v449 : BitVec 32 := Scalar.muli v2 c1024_i32_339
  let v450 : Index := Scalar.indexCast v449
  let c0_340 : Index := 0#32
  ![v450.toNat, 0]
def k0_off4 (d0 : Dev nD) (c1_i32_350 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v460 : BitVec 32 := Scalar.subi v2 c1_i32_350
  let c4_i32_351 : BitVec 32 := 4#32
  let c0_i32_352 : BitVec 32 := 0#32
  let v461 : BitVec 1 := Scalar.cmpi .eq c4_i32_351 c0_i32_352
  let c1_i32_353 : BitVec 32 := 1#32
  let v462 : BitVec 32 := Scalar.select v461 c1_i32_353 c4_i32_351
  let v463 : BitVec 32 := Scalar.remsi v460 v462
  let c0_i32_355 : BitVec 32 := 0#32
  let v465 : BitVec 1 := Scalar.cmpi .slt v463 c0_i32_355
  let c0_i32_356 : BitVec 32 := 0#32
  let v466 : BitVec 1 := Scalar.cmpi .slt v462 c0_i32_356
  let v467 : BitVec 1 := Scalar.xori v465 v466
  let c0_i32_354 : BitVec 32 := 0#32
  let v464 : BitVec 1 := Scalar.cmpi .ne v463 c0_i32_354
  let v468 : BitVec 1 := Scalar.andi v467 v464
  let v469 : BitVec 32 := Scalar.addi v463 v462
  let v470 : BitVec 32 := Scalar.select v468 v469 v463
  let c1024_i32_360 : BitVec 32 := 1024#32
  let v477 : BitVec 32 := Scalar.muli v470 c1024_i32_360
  let v478 : Index := Scalar.indexCast v477
  let c0_361 : Index := 0#32
  ![v478.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 21
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .fp8e4m3⟩
  | .hbm, ⟨19, _⟩ => ⟨S1x1, .f32⟩
  | .hbm, ⟨20, _⟩ => ⟨S4096x8192, .bf16⟩
  | .local _ .vmem, ⟨0, _⟩ => ⟨S4096x8192, .fp8e4m3⟩
  | .local _ .vmem, ⟨1, _⟩ => ⟨S1x1, .f32⟩
  | .local _ .vmem, ⟨2, _⟩ => ⟨S4096x8192, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdeal.Cells.lean ====
/-
The vocabulary of the run: the ring of four devices, the buffers and their windows, the semaphores, the levels at which
the waits happen, and the CONTENTS each buffer holds once the kernel has filled it, as functions of the launch memory.

Semaphores, one round each:
* barrier of a device: one unit from each of the three other devices; device `c` waits for 3. The unit device `c` sends to
  the device `k + 1` steps ahead hands over two landing places of `c`: of the maxima and of the quantised blocks.
* `w` copies (2): local, a block of columns of the right operand lands in a staging slot.
* maxima, sent and received (3 + 3): the send hands a third of the sent buffer back; the landing hands the slot filled
  with the maximum of the device `k + 1` steps behind.
* blocks, sent and received (3 + 3): the send hands the block back; the landing hands the slot filled with the quantised
  block of the device `k + 1` steps behind.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.ViewIndex
public import Idealize.ShloMosaic.Lib.Tactic

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the ring's rounds, the counters of the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring: `fwd c k` is `k + 1` steps ahead of `c`, `bwd c k` as many behind -/

set_option backward.proofsInPublic true in
def fwd (c : Dev nD) (k : Fin 3) : Dev nD := ⟨(c.val + k.val + 1) % 4, Nat.mod_lt _ (by decide)⟩
set_option backward.proofsInPublic true in
def bwd (c : Dev nD) (k : Fin 3) : Dev nD := ⟨(c.val + 3 - k.val) % 4, Nat.mod_lt _ (by decide)⟩
set_option backward.proofsInPublic true in
/-- The slot number seen from the other end. -/
def opp (k : Fin 3) : Fin 3 := ⟨2 - k.val, by omega⟩

theorem bwd_fwd (c : Dev nD) (k : Fin 3) : bwd (fwd c k) k = c := by revert c k; decide
theorem fwd_bwd (c : Dev nD) (k : Fin 3) : fwd (bwd c k) k = c := by revert c k; decide
theorem bwd_opp (c : Dev nD) (k : Fin 3) : bwd c (opp k) = fwd c k := by revert c k; decide
theorem opp_opp (k : Fin 3) : opp (opp k) = k := by revert k; decide

theorem dev1_eq : ∀ c : Dev nD, (⟨k0_dev1 c, k0_dev1_lt c⟩ : Dev nD) = fwd c 0 := by decide +kernel
theorem dev2_eq : ∀ c : Dev nD, (⟨k0_dev2 c, k0_dev2_lt c⟩ : Dev nD) = fwd c 1 := by decide +kernel
theorem dev3_eq : ∀ c : Dev nD, (⟨k0_dev3 c, k0_dev3_lt c⟩ : Dev nD) = fwd c 2 := by decide +kernel
theorem dev4_eq : ∀ c : Dev nD, (⟨k0_dev4 c, k0_dev4_lt c⟩ : Dev nD) = fwd c 0 := by decide +kernel
theorem dev5_eq : ∀ c : Dev nD, (⟨k0_dev5 c, k0_dev5_lt c⟩ : Dev nD) = fwd c 1 := by decide +kernel
theorem dev6_eq : ∀ c : Dev nD, (⟨k0_dev6 c, k0_dev6_lt c⟩ : Dev nD) = fwd c 2 := by decide +kernel
theorem dev7_eq : ∀ c : Dev nD, (⟨k0_dev7 c, k0_dev7_lt c⟩ : Dev nD) = fwd c 0 := by decide +kernel
theorem dev8_eq : ∀ c : Dev nD, (⟨k0_dev8 c, k0_dev8_lt c⟩ : Dev nD) = fwd c 1 := by decide +kernel
theorem dev9_eq : ∀ c : Dev nD, (⟨k0_dev9 c, k0_dev9_lt c⟩ : Dev nD) = fwd c 2 := by decide +kernel

/-! ## The memrefs -/

abbrev xM : Memref sig .tc .vmem S1024x4096 .bf16 := Memref.whole cc0_stg0_0
abbrev wM : Memref sig .tc .hbm S4096x8192 .bf16 := Memref.whole main_arg1
abbrev oM : Memref sig .tc .vmem S4096x2048 .bf16 := Memref.whole cc0_stg1_0
abbrev yM : Memref sig .tc .vmem S1024x8192 .f32 := Memref.whole cc0_scratch0
abbrev qM : Memref sig .tc .vmem S4x1024x2048 .fp8e4m3 := Memref.whole cc0_scratch1
abbrev vM : Memref sig .tc .vmem S3x1024x2048 .fp8e4m3 := Memref.whole cc0_scratch2
abbrev bM : Memref sig .tc .vmem S2x4096x1024 .bf16 := Memref.whole cc0_scratch3
abbrev txM : Memref sig .tc .vmem S8x128 .f32 := Memref.whole cc0_scratch4
abbrev rxM : Memref sig .tc .vmem S3x8x128 .f32 := Memref.whole cc0_scratch5

theorem inbW (b : Fin 8) : ∀ a, (![0, 1024 * b.val] : Fin 2 → ℕ) a + S4096x1024.size a ≤ S4096x8192.size a := by revert b; decide
theorem inbB (s : Fin 2) : ∀ a, (![s.val, 0, 0] : Fin 3 → ℕ) a + S1x4096x1024.size a ≤ S2x4096x1024.size a := by revert s; decide
theorem inbR (k : Fin 3) : ∀ a, (![k.val, 0, 0] : Fin 3 → ℕ) a + S1x8x128.size a ≤ S3x8x128.size a := by revert k; decide
theorem inbV (k : Fin 3) : ∀ a, (![k.val, 0, 0] : Fin 3 → ℕ) a + S1x1024x2048.size a ≤ S3x1024x2048.size a := by revert k; decide
theorem inbQ (t : Fin 4) : ∀ a, (![t.val, 0, 0] : Fin 3 → ℕ) a + S1x1024x2048.size a ≤ S4x1024x2048.size a := by revert t; decide
theorem inb3 (k : Fin 3) : ∀ a, (![k.val] : Fin 1 → ℕ) a + S1.size a ≤ S3.size a := by revert k; decide
theorem inb2 (k : Fin 2) : ∀ a, (![k.val] : Fin 1 → ℕ) a + S1.size a ≤ S2.size a := by revert k; decide

/-- Columns `1024 b …` of the right operand. -/
abbrev wSlab (b : Fin 8) : Memref sig .tc .hbm S4096x1024 .bf16 :=
  wM.slice (Rect.unit (s := S4096x8192) ![0, 1024 * b.val] S4096x1024.size (inbW b)) (fun _ => rfl)
/-- The two staging slots of the right operand, -/
abbrev bSlot (s : Fin 2) : Memref sig .tc .vmem S4096x1024 .bf16 :=
  (bM.slice (Rect.unit (s := S2x4096x1024) ![s.val, 0, 0] S1x4096x1024.size (inbB s)) (fun _ => rfl)).squeeze S4096x1024 squeezes_S1x4096x1024_S4096x1024
/-- the three landing places of the maxima, -/
abbrev rSlot (k : Fin 3) : Memref sig .tc .vmem S8x128 .f32 :=
  (rxM.slice (Rect.unit (s := S3x8x128) ![k.val, 0, 0] S1x8x128.size (inbR k)) (fun _ => rfl)).squeeze S8x128 squeezes_S1x8x128_S8x128
/-- the three landing places of the quantised blocks, -/
abbrev vSlot (k : Fin 3) : Memref sig .tc .vmem S1024x2048 .fp8e4m3 :=
  (vM.slice (Rect.unit (s := S3x1024x2048) ![k.val, 0, 0] S1x1024x2048.size (inbV k)) (fun _ => rfl)).squeeze S1024x2048 squeezes_S1x1024x2048_S1024x2048
/-- the four quantised blocks. -/
abbrev qSlot (t : Fin 4) : Memref sig .tc .vmem S1024x2048 .fp8e4m3 :=
  (qM.slice (Rect.unit (s := S4x1024x2048) ![t.val, 0, 0] S1x1024x2048.size (inbQ t)) (fun _ => rfl)).squeeze S1024x2048 squeezes_S1x1024x2048_S1024x2048

/-! ## The semaphores -/

abbrev barS : Sem sig := (SemArray.scalar (sig.barrier 0 rfl) : Sems sig S_).sem
abbrev wsS (s : Fin 2) : DmaSem sig := ((cc0_scratch6.slice (Rect.unit (s := S2) ![s.val] S1.size (inb2 s))).squeeze S_ squeezes_S1_S_).sem
abbrev dsS (k : Fin 3) : DmaSem sig := ((cc0_scratch7.slice (Rect.unit (s := S3) ![k.val] S1.size (inb3 k))).squeeze S_ squeezes_S1_S_).sem
abbrev drS (k : Fin 3) : DmaSem sig := ((cc0_scratch8.slice (Rect.unit (s := S3) ![k.val] S1.size (inb3 k))).squeeze S_ squeezes_S1_S_).sem
abbrev asS (k : Fin 3) : DmaSem sig := ((cc0_scratch9.slice (Rect.unit (s := S3) ![k.val] S1.size (inb3 k))).squeeze S_ squeezes_S1_S_).sem
abbrev arS (k : Fin 3) : DmaSem sig := ((cc0_scratch10.slice (Rect.unit (s := S3) ![k.val] S1.size (inb3 k))).squeeze S_ squeezes_S1_S_).sem

/-- The thirteen cells of a device that other devices touch: the barrier, and per role (0 block sent, 1 block received,
    2 maximum sent, 3 maximum received) the three semaphores of the role. -/
abbrev CK : Type := Option (Fin 4 × Fin 3)

theorem sem_lt (r : Fin 4) (k : Fin 3) : 4 + 3 * r.val + k.val < 16 := by omega
set_option backward.proofsInPublic true in
def dsem (r : Fin 4) (k : Fin 3) : DmaSem sig := ⟨4 + 3 * r.val + k.val, sem_lt r k⟩
set_option backward.proofsInPublic true in
def wsem (s : Fin 2) : DmaSem sig := ⟨2 + s.val, by show 2 + s.val < 16; omega⟩

theorem wsS_eq : ∀ s, wsS s = wsem s := by decide +kernel
theorem dsS_eq : ∀ k, dsS k = dsem 0 k := by decide +kernel
theorem drS_eq : ∀ k, drS k = dsem 1 k := by decide +kernel
theorem asS_eq : ∀ k, asS k = dsem 2 k := by decide +kernel
theorem arS_eq : ∀ k, arS k = dsem 3 k := by decide +kernel

def csem : CK → SemLoc sig
  | none => .reg barS
  | some (r, k) => .dma (dsem r k)
/-- Which of the cells a semaphore is (anything for those that are none). -/
def dec : SemLoc sig → CK
  | .reg _ => none
  | .dma s => if s.val < 4 then none else some (⟨(s.val - 4) / 3 % 4, Nat.mod_lt _ (by decide)⟩, ⟨(s.val - 4) % 3, Nat.mod_lt _ (by decide)⟩)
theorem dec_csem : ∀ ck, dec (csem ck) = ck := by decide +kernel
theorem csem_inj : Function.Injective csem := fun a b h => by rw [← dec_csem a, h, dec_csem]

abbrev kcell (c : Dev nD) (ck : CK) : GSem nD τ sig := ((c : Thread nD τ), csem ck)

/-- The credits of one landing: of a maximum, of a quantised block, of a block of columns. -/
abbrev NA : ℕ := (txM : Memref sig .tc .vmem S8x128 .f32).view.dmaCredit
abbrev ND : ℕ := (qSlot 0).view.dmaCredit
abbrev NW : ℕ := (wSlab 0).view.dmaCredit
theorem NA_pos : 0 < NA := View.dmaCredit_pos _ (by decide)
theorem ND_pos : 0 < ND := View.dmaCredit_pos _ (by decide)
theorem NW_pos : 0 < NW := View.dmaCredit_pos _ (by decide)
theorem rSlot_credit (k : Fin 3) : (rSlot k).view.dmaCredit = NA := rfl
theorem vSlot_credit (k : Fin 3) : (vSlot k).view.dmaCredit = ND := rfl
theorem qSlot_credit (t : Fin 4) : (qSlot t).view.dmaCredit = ND := rfl
theorem bSlot_credit (s : Fin 2) : (bSlot s).view.dmaCredit = NW := rfl
theorem wSlab_credit (b : Fin 8) : (wSlab b).view.dmaCredit = NW := rfl

/-- The credit a cell expects. -/
def amt : CK → ℕ
  | none => 1
  | some (r, _) => if r.val < 2 then ND else NA
theorem amt_pos (ck : CK) : 0 < amt ck := by
  rcases ck with _ | ⟨r, k⟩
  · exact Nat.one_pos
  · unfold amt; dsimp only; split
    · exact ND_pos
    · exact NA_pos

/-! ## Contents -/

/-- The left operand's block, as the launch stages it. -/
def xstg (c : Dev nD) : (cc0_stg0_0 : Ref sig .tc).ty.Contents (Elt F) :=
  (win0_0.blk (0 : Fin 1)).view.read (Elt F) (m ((c : Thread nD τ).loc main_arg0))
/-- The right operand. -/
def wC (c : Dev nD) : FVec F S4096x8192 .bf16 := m ((c : Thread nD τ).loc main_arg1)
/-- The left operand's block as the products read it. -/
def X (c : Dev nD) : FVec F S1024x4096 .bf16 := k0_pay1 (xstg m c)
/-- Block `b` of the right operand's columns as a staging slot is read. -/
def W (c : Dev nD) (b : Fin 8) : Vec F S1x4096x1024 .bf16 := fun j =>
  wC m c (ix2 (j 1) ⟨1024 * b.val + (j 2).val, by have : (j 2).val < 1024 := (j 2).isLt; omega⟩)
/-- A staging slot holding block `b` (the other slot's elements do not matter). -/
def bC (c : Dev nD) (b : Fin 8) : FVec F S2x4096x1024 .bf16 := fun i =>
  wC m c (ix2 (i 1) ⟨1024 * b.val + (i 2).val, by have : (i 2).val < 1024 := (i 2).isLt; omega⟩)
/-- The block of a column of the product. -/
abbrev yKey (i : S1024x8192.Idx) : Fin 8 := ⟨(i 1).val / 1024, by have : (i 1).val < 8192 := (i 1).isLt; omega⟩
/-- The product. -/
def Y (c : Dev nD) : FVec F S1024x8192 .f32 := fun i =>
  k0_pay3 (X m c) (W m c (yKey i)) (ix2 (i 0) ⟨(i 1).val % 1024, Nat.mod_lt _ (by decide)⟩)

/-- The running maximum after one, three, four, five and seven blocks, and at the end. -/
def am1 (c : Dev nD) : F .f32 := k0_pay4 (X m c) (W m c 0)
def am3 (c : Dev nD) : F .f32 := k0_pay9 (X m c) (am1 m c) (k0_pay5 (X m c) (W m c 1)) (W m c 2)
def am4 (c : Dev nD) : F .f32 := k0_pay12 (X m c) (am3 m c) (W m c 3)
def am5 (c : Dev nD) : F .f32 := k0_pay15 (X m c) (am4 m c) (W m c 4)
def am7 (c : Dev nD) : F .f32 := k0_pay21 (X m c) (am5 m c) (k0_pay18 (X m c) (W m c 5)) (W m c 6)
def amL (c : Dev nD) : F .f32 := k0_pay24 (X m c) (am7 m c) (W m c 7)
/-- The buffer sent to the other devices: that maximum everywhere. -/
def tx (c : Dev nD) : FVec F S8x128 .f32 := k0_pay25 (X m c) (am7 m c) (W m c 7)
/-- The landing places of the maxima, all filled, -/
def rx (c : Dev nD) : FVec F S3x8x128 .f32 := fun i => tx m (bwd c (i 0)) (ix2 (i 1) (i 2))
/-- and one of them as it is read. -/
def rxv (c : Dev nD) (k : Fin 3) : Vec F S1x8x128 .f32 := fun j => tx m (bwd c k) (ix2 (j 1) (j 2))
/-- 448 over the overall maximum, and its inverse. -/
def inv (c : Dev nD) : F .f32 := k0_pay27 (amL m c) (rxv m c 0) (rxv m c 1) (rxv m c 2)
def scl (c : Dev nD) : F .f32 := k0_pay28 (amL m c) (rxv m c 0) (rxv m c 1) (rxv m c 2)
/-- Block `t` of the product's columns, as it is read to be quantised. -/
def Ysl (c : Dev nD) (t : Fin 4) : Vec F S1024x2048 .f32 := fun j =>
  Y m c (ix2 (j 0) ⟨2048 * t.val + (j 1).val, by have : (j 1).val < 2048 := (j 1).isLt; omega⟩)
/-- The quantised blocks. -/
def Q (c : Dev nD) : FVec F S4x1024x2048 .fp8e4m3 := fun i => k0_pay29 (inv m c) (Ysl m c (i 0)) (ix3 0 (i 1) (i 2))
/-- The landing places of the quantised blocks, all filled. -/
def Rv (c : Dev nD) : FVec F S3x1024x2048 .fp8e4m3 := fun i => Q m (bwd c (i 0)) (ix3 c (i 1) (i 2))
/-- The quantised block device `r` has for device `c`, as it is read. -/
def qrow (c r : Dev nD) : Vec F S1x1024x2048 .fp8e4m3 := fun j => Q m r (ix3 c (j 1) (j 2))
/-- The block of a row of the result. -/
abbrev oKey (i : S4096x2048.Idx) : Fin 4 := ⟨(i 0).val / 1024, by have : (i 0).val < 4096 := (i 0).isLt; omega⟩
/-- The result. -/
def O (c : Dev nD) : FVec F S4096x2048 .bf16 := fun i =>
  k0_pay33 (scl m c) (qrow m c (oKey i)) (ix2 ⟨(i 0).val % 1024, Nat.mod_lt _ (by decide)⟩ (i 1))

end Cert.KernelIdeal.Run

end
-- ==== Proof.KernelIdeal.Windows.lean ====
/-
The windows of the buffers: which elements a slot has, what a landing leaves in it, what a load of it reads, what a
store through it changes. All plain index arithmetic.
-/
module

public import proofs.«01_k».proof.Proof.KernelIdeal.Cells
public import Idealize.ShloMosaic.Lib.ValueLayout

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Where a slot's elements lie -/

theorem wSlab_emb (b : Fin 8) (x : S4096x1024.Idx) :
    (wSlab b).view.emb x = ix2 (x 0) ⟨1024 * b.val + (x 1).val, by have : (x 1).val < 1024 := (x 1).isLt; omega⟩ := by
  funext a
  match a with
  | ⟨0, _⟩ => exact Fin.ext (show 0 + 1 * (x 0).val = (x 0).val by omega)
  | ⟨1, _⟩ => exact Fin.ext (show 1024 * b.val + 1 * (x 1).val = 1024 * b.val + (x 1).val by omega)

/-- Row-major matching of a squeezed slot's index. -/
theorem lead (n a b : ℕ) (k : Fin n) (inb : ∀ d, (![k.val, 0, 0] : Fin 3 → ℕ) d + (⟨3, ![1, a, b]⟩ : Shape).size d ≤ (⟨3, ![n, a, b]⟩ : Shape).size d)
    (h : (⟨2, ![a, b]⟩ : Shape).numel = (⟨3, ![1, a, b]⟩ : Shape).numel) (x : (⟨2, ![a, b]⟩ : Shape).Idx) :
    (Rect.unit (s := ⟨3, ![n, a, b]⟩) ![k.val, 0, 0] (⟨3, ![1, a, b]⟩ : Shape).size inb).emb (Shape.reshapeEquiv h x) = ix3 k (x 0) (x 1) := by
  obtain ⟨x0, x1, rfl⟩ : ∃ x0 x1, x = ix2 x0 x1 := ⟨x 0, x 1, eq_ix2 x⟩
  rw [reshapeEquiv_ix2_1ab]
  refine Shape.idx3_ext ?_ ?_ ?_
  · show k.val + 1 * 0 = k.val; omega
  · show 0 + 1 * x0.val = x0.val; omega
  · show 0 + 1 * x1.val = x1.val; omega

theorem bSlot_emb (s : Fin 2) (x : S4096x1024.Idx) : (bSlot s).view.emb x = ix3 s (x 0) (x 1) := lead 2 4096 1024 s (inbB s) _ x
theorem rSlot_emb (k : Fin 3) (x : S8x128.Idx) : (rSlot k).view.emb x = ix3 k (x 0) (x 1) := lead 3 8 128 k (inbR k) _ x
theorem vSlot_emb (k : Fin 3) (x : S1024x2048.Idx) : (vSlot k).view.emb x = ix3 k (x 0) (x 1) := lead 3 1024 2048 k (inbV k) _ x
theorem qSlot_emb (t : Fin 4) (x : S1024x2048.Idx) : (qSlot t).view.emb x = ix3 t (x 0) (x 1) := lead 4 1024 2048 t (inbQ t) _ x

/-! ## A slot's elements are those with the slot's key -/

abbrev wKey (i : S4096x8192.Idx) : Fin 8 := ⟨(i 1).val / 1024, by have : (i 1).val < 8192 := (i 1).isLt; omega⟩

theorem mem_wSlab (b : Fin 8) (i : S4096x8192.Idx) : i ∈ (wSlab b).view.set ↔ wKey i = b := by
  constructor
  · intro h
    obtain ⟨x, -, rfl⟩ := Finset.mem_map.mp h
    rw [wSlab_emb]
    have : (x 1).val < 1024 := (x 1).isLt
    exact Fin.ext (show (1024 * b.val + (x 1).val) / 1024 = b.val by omega)
  · rintro rfl
    have h1 : (i 1).val < 8192 := (i 1).isLt
    refine Finset.mem_map.mpr ⟨ix2 (i 0) ⟨(i 1).val % 1024, Nat.mod_lt _ (by decide)⟩, Finset.mem_univ _, ?_⟩
    rw [wSlab_emb]
    funext a
    match a with
    | ⟨0, _⟩ => rfl
    | ⟨1, _⟩ => exact Fin.ext (show 1024 * ((i 1).val / 1024) + (i 1).val % 1024 = (i 1).val by omega)

theorem mem_bSlot (s : Fin 2) (i : S2x4096x1024.Idx) : i ∈ (bSlot s).view.set ↔ i 0 = s := by
  constructor
  · intro h
    obtain ⟨x, -, rfl⟩ := Finset.mem_map.mp h
    rw [bSlot_emb]
  · rintro rfl
    exact Finset.mem_map.mpr ⟨ix2 (i 1) (i 2), Finset.mem_univ _, (bSlot_emb _ _).trans (eq_ix3 i).symm⟩
theorem mem_rSlot (k : Fin 3) (i : S3x8x128.Idx) : i ∈ (rSlot k).view.set ↔ i 0 = k := by
  constructor
  · intro h
    obtain ⟨x, -, rfl⟩ := Finset.mem_map.mp h
    rw [rSlot_emb]
  · rintro rfl
    exact Finset.mem_map.mpr ⟨ix2 (i 1) (i 2), Finset.mem_univ _, (rSlot_emb _ _).trans (eq_ix3 i).symm⟩
theorem mem_vSlot (k : Fin 3) (i : S3x1024x2048.Idx) : i ∈ (vSlot k).view.set ↔ i 0 = k := by
  constructor
  · intro h
    obtain ⟨x, -, rfl⟩ := Finset.mem_map.mp h
    rw [vSlot_emb]
  · rintro rfl
    exact Finset.mem_map.mpr ⟨ix2 (i 1) (i 2), Finset.mem_univ _, (vSlot_emb _ _).trans (eq_ix3 i).symm⟩
theorem mem_qSlot (t : Fin 4) (i : S4x1024x2048.Idx) : i ∈ (qSlot t).view.set ↔ i 0 = t := by
  constructor
  · intro h
    obtain ⟨x, -, rfl⟩ := Finset.mem_map.mp h
    rw [qSlot_emb]
  · rintro rfl
    exact Finset.mem_map.mpr ⟨ix2 (i 1) (i 2), Finset.mem_univ _, (qSlot_emb _ _).trans (eq_ix3 i).symm⟩

/-! ## What a landing leaves -/

/-- Block `b` of the right operand's columns, landed in a staging slot. -/
theorem land_b (c : Dev nD) (s : Fin 2) (b : Fin 8) (fd : FVec F S2x4096x1024 .bf16) (i : S2x4096x1024.Idx) (hi : i ∈ (bSlot s).view.set) :
    (bSlot s).view.write (Elt F) fd ((wSlab b).view.read (Elt F) (wC m c)) Finset.univ i = bC m c b i := by
  obtain ⟨x, -, rfl⟩ := Finset.mem_map.mp hi
  refine (View.write_emb_of_mem (Val := Elt F) (v := (bSlot s).view) fd _ (Finset.mem_univ x)).trans ?_
  show wC m c ((wSlab b).view.emb x) = bC m c b ((bSlot s).view.emb x)
  rw [wSlab_emb, bSlot_emb]
  rfl
/-- The maximum of the device `k + 1` steps behind, landed. -/
theorem land_r (c : Dev nD) (k : Fin 3) (fd : FVec F S3x8x128 .f32) (i : S3x8x128.Idx) (hi : i ∈ (rSlot k).view.set) :
    (rSlot k).view.write (Elt F) fd (txM.view.read (Elt F) (tx m (bwd c k))) Finset.univ i = rx m c i := by
  obtain ⟨x, -, rfl⟩ := Finset.mem_map.mp hi
  refine (View.write_emb_of_mem (Val := Elt F) (v := (rSlot k).view) fd _ (Finset.mem_univ x)).trans ?_
  show tx m (bwd c k) x = rx m c ((rSlot k).view.emb x)
  rw [rSlot_emb]
  exact congrArg _ (eq_ix2 x)
/-- The block the device `k + 1` steps behind has for this one, landed. -/
theorem land_v (c : Dev nD) (k : Fin 3) (fd : FVec F S3x1024x2048 .fp8e4m3) (i : S3x1024x2048.Idx) (hi : i ∈ (vSlot k).view.set) :
    (vSlot k).view.write (Elt F) fd ((qSlot c).view.read (Elt F) (Q m (bwd c k))) Finset.univ i = Rv m c i := by
  obtain ⟨x, -, rfl⟩ := Finset.mem_map.mp hi
  refine (View.write_emb_of_mem (Val := Elt F) (v := (vSlot k).view) fd _ (Finset.mem_univ x)).trans ?_
  show Q m (bwd c k) ((qSlot c).view.emb x) = Rv m c ((vSlot k).view.emb x)
  rw [vSlot_emb, qSlot_emb]
  rfl

/-! ## What a load reads -/

/-- A window of one leading index, at the index `j` of the window. -/
theorem lead_idx (n a b : ℕ) (k : Fin n) (inb : ∀ d, (![k.val, 0, 0] : Fin 3 → ℕ) d + (⟨3, ![1, a, b]⟩ : Shape).size d ≤ (⟨3, ![n, a, b]⟩ : Shape).size d)
    (j : (⟨3, ![1, a, b]⟩ : Shape).Idx) :
    (Rect.unit (s := ⟨3, ![n, a, b]⟩) ![k.val, 0, 0] (⟨3, ![1, a, b]⟩ : Shape).size inb).emb j = ix3 k (j 1) (j 2) := by
  refine Shape.idx3_ext ?_ ?_ ?_
  · have : (j 0).val < 1 := (j 0).isLt
    show k.val + 1 * (j 0).val = k.val; omega
  · show 0 + 1 * (j 1).val = (j 1).val; omega
  · show 0 + 1 * (j 2).val = (j 2).val; omega

theorem read_b (c : Dev nD) (s : Fin 2) (b : Fin 8) :
    bM.view.readAt (Elt F) (Rect.unit (s := S2x4096x1024) ![s.val, 0, 0] S1x4096x1024.size (inbB s)).toLoadRect (bC m c b) = W m c b := by
  funext j
  show bC m c b ((Rect.unit (s := S2x4096x1024) ![s.val, 0, 0] S1x4096x1024.size (inbB s)).emb j) = _
  rw [lead_idx 2 4096 1024 s (inbB s) j]
  rfl
theorem read_r (c : Dev nD) (k : Fin 3) :
    rxM.view.readAt (Elt F) (Rect.unit (s := S3x8x128) ![k.val, 0, 0] S1x8x128.size (inbR k)).toLoadRect (rx m c) = rxv m c k := by
  funext j
  show rx m c ((Rect.unit (s := S3x8x128) ![k.val, 0, 0] S1x8x128.size (inbR k)).emb j) = _
  rw [lead_idx 3 8 128 k (inbR k) j]
  rfl
theorem read_v (c : Dev nD) (k : Fin 3) :
    vM.view.readAt (Elt F) (Rect.unit (s := S3x1024x2048) ![k.val, 0, 0] S1x1024x2048.size (inbV k)).toLoadRect (Rv m c) = qrow m c (bwd c k) := by
  funext j
  show Rv m c ((Rect.unit (s := S3x1024x2048) ![k.val, 0, 0] S1x1024x2048.size (inbV k)).emb j) = _
  rw [lead_idx 3 1024 2048 k (inbV k) j]
  rfl
theorem read_q (c : Dev nD) (t : Dev nD) :
    qM.view.readAt (Elt F) (Rect.unit (s := S4x1024x2048) ![t.val, 0, 0] S1x1024x2048.size (inbQ t)).toLoadRect (Q m c) = qrow m t c := by
  funext j
  show Q m c ((Rect.unit (s := S4x1024x2048) ![t.val, 0, 0] S1x1024x2048.size (inbQ t)).emb j) = _
  rw [lead_idx 4 1024 2048 t (inbQ t) j]
  rfl

theorem inbY (b : Fin 8) : ∀ a, (![0, 1024 * b.val] : Fin 2 → ℕ) a + S1024x1024.size a ≤ S1024x8192.size a := by revert b; decide
theorem inbYt (t : Fin 4) : ∀ a, (![0, 2048 * t.val] : Fin 2 → ℕ) a + S1024x2048.size a ≤ S1024x8192.size a := by revert t; decide
theorem inbO (r : Fin 4) : ∀ a, (![1024 * r.val, 0] : Fin 2 → ℕ) a + S1024x2048.size a ≤ S4096x2048.size a := by revert r; decide

theorem read_y (c : Dev nD) (t : Fin 4) :
    yM.view.readAt (Elt F) (Rect.unit (s := S1024x8192) ![0, 2048 * t.val] S1024x2048.size (inbYt t)).toLoadRect (Y m c) = Ysl m c t := by
  funext j
  show Y m c ((Rect.unit (s := S1024x8192) ![0, 2048 * t.val] S1024x2048.size (inbYt t)).emb j) = Y m c _
  congr 1
  funext a
  match a with
  | ⟨0, _⟩ => exact Fin.ext (show 0 + 1 * (j 0).val = (j 0).val by omega)
  | ⟨1, _⟩ => exact Fin.ext (show 2048 * t.val + 1 * (j 1).val = 2048 * t.val + (j 1).val by omega)

/-! ## What a store changes: the block it names becomes the canonical contents, the others stay -/

abbrev yR (b : Fin 8) : Rect S1024x8192 := Rect.unit (s := S1024x8192) ![0, 1024 * b.val] S1024x1024.size (inbY b)
abbrev qR (t : Fin 4) : Rect S4x1024x2048 := Rect.unit (s := S4x1024x2048) ![t.val, 0, 0] S1x1024x2048.size (inbQ t)
abbrev oR (r : Fin 4) : Rect S4096x2048 := Rect.unit (s := S4096x2048) ![1024 * r.val, 0] S1024x2048.size (inbO r)
abbrev qKey (i : S4x1024x2048.Idx) : Fin 4 := i 0

theorem yR_emb (b : Fin 8) (x : S1024x1024.Idx) : (yR b).emb x = ix2 (x 0) ⟨1024 * b.val + (x 1).val, by have : (x 1).val < 1024 := (x 1).isLt; omega⟩ := by
  funext a
  match a with
  | ⟨0, _⟩ => exact Fin.ext (show 0 + 1 * (x 0).val = (x 0).val by omega)
  | ⟨1, _⟩ => exact Fin.ext (show 1024 * b.val + 1 * (x 1).val = 1024 * b.val + (x 1).val by omega)
theorem oR_emb (r : Fin 4) (x : S1024x2048.Idx) : (oR r).emb x = ix2 ⟨1024 * r.val + (x 0).val, by have : (x 0).val < 1024 := (x 0).isLt; omega⟩ (x 1) := by
  funext a
  match a with
  | ⟨0, _⟩ => exact Fin.ext (show 1024 * r.val + 1 * (x 0).val = 1024 * r.val + (x 0).val by omega)
  | ⟨1, _⟩ => exact Fin.ext (show 0 + 1 * (x 1).val = (x 1).val by omega)

theorem store_y (c : Dev nD) (b : Fin 8) (f : FVec F S1024x8192 .f32) (i : S1024x8192.Idx) :
    (yM.access (yR b)).write (Elt F) f (k0_pay3 (X m c) (W m c b)) Finset.univ i = if yKey i = b then Y m c i else f i := by
  have h1 : (i 1).val < 8192 := (i 1).isLt
  by_cases h : yKey i = b
  · rw [if_pos h]
    subst h
    have e : (yM.access (yR (yKey i))).emb (ix2 (i 0) ⟨(i 1).val % 1024, Nat.mod_lt _ (by decide)⟩ : S1024x1024.Idx) = i := by
      refine (yR_emb (yKey i) _).trans ?_
      funext a
      match a with
      | ⟨0, _⟩ => rfl
      | ⟨1, _⟩ => exact Fin.ext (show 1024 * ((i 1).val / 1024) + (i 1).val % 1024 = (i 1).val by omega)
    have h := View.write_emb_of_mem (Val := Elt F) (v := yM.access (yR (yKey i))) f (k0_pay3 (X m c) (W m c (yKey i)))
      (Finset.mem_univ (ix2 (i 0) ⟨(i 1).val % 1024, Nat.mod_lt _ (by decide)⟩ : S1024x1024.Idx))
    rw [e] at h
    rw [h]
    unfold Y
    rfl
  · rw [if_neg h]
    refine View.write_of_not_mem (Val := Elt F) (v := yM.access (yR b)) f _ _ fun hm => h ?_
    obtain ⟨x, -, rfl⟩ := Finset.mem_map.mp hm
    have : ((x : S1024x1024.Idx) 1).val < 1024 := ((x : S1024x1024.Idx) 1).isLt
    rw [show (yM.access (yR b)).emb x = _ from yR_emb b x]
    exact Fin.ext (show (1024 * b.val + ((x : S1024x1024.Idx) 1).val) / 1024 = b.val by omega)

theorem store_q (c : Dev nD) (t : Fin 4) (f : FVec F S4x1024x2048 .fp8e4m3) (i : S4x1024x2048.Idx) :
    (qM.access (qR t)).write (Elt F) f (k0_pay29 (inv m c) (Ysl m c t)) Finset.univ i = if qKey i = t then Q m c i else f i := by
  by_cases h : qKey i = t
  · rw [if_pos h]
    subst h
    have e : (qM.access (qR (qKey i))).emb (ix3 0 (i 1) (i 2) : S1x1024x2048.Idx) = i :=
      (lead_idx 4 1024 2048 (i 0) (inbQ (i 0)) _).trans (eq_ix3 i).symm
    have h := View.write_emb_of_mem (Val := Elt F) (v := qM.access (qR (qKey i))) f (k0_pay29 (inv m c) (Ysl m c (qKey i)))
      (Finset.mem_univ (ix3 0 (i 1) (i 2) : S1x1024x2048.Idx))
    rw [e] at h
    rw [h]
    unfold Q
    rfl
  · rw [if_neg h]
    refine View.write_of_not_mem (Val := Elt F) (v := qM.access (qR t)) f _ _ fun hm => h ?_
    obtain ⟨x, -, rfl⟩ := Finset.mem_map.mp hm
    exact congrFun (lead_idx 4 1024 2048 t (inbQ t) x) 0

theorem store_o (c : Dev nD) (r : Fin 4) (f : FVec F S4096x2048 .bf16) (i : S4096x2048.Idx) :
    (oM.access (oR r)).write (Elt F) f (k0_pay33 (scl m c) (qrow m c r)) Finset.univ i = if oKey i = r then O m c i else f i := by
  have h1 : (i 0).val < 4096 := (i 0).isLt
  by_cases h : oKey i = r
  · rw [if_pos h]
    subst h
    have e : (oM.access (oR (oKey i))).emb (ix2 ⟨(i 0).val % 1024, Nat.mod_lt _ (by decide)⟩ (i 1) : S1024x2048.Idx) = i := by
      refine (oR_emb (oKey i) _).trans ?_
      funext a
      match a with
      | ⟨0, _⟩ => exact Fin.ext (show 1024 * ((i 0).val / 1024) + (i 0).val % 1024 = (i 0).val by omega)
      | ⟨1, _⟩ => rfl
    have h := View.write_emb_of_mem (Val := Elt F) (v := oM.access (oR (oKey i))) f (k0_pay33 (scl m c) (qrow m c (oKey i)))
      (Finset.mem_univ (ix2 ⟨(i 0).val % 1024, Nat.mod_lt _ (by decide)⟩ (i 1) : S1024x2048.Idx))
    rw [e] at h
    rw [h]
    unfold O
    rfl
  · rw [if_neg h]
    refine View.write_of_not_mem (Val := Elt F) (v := oM.access (oR r)) f _ _ fun hm => h ?_
    obtain ⟨x, -, rfl⟩ := Finset.mem_map.mp hm
    have : ((x : S1024x2048.Idx) 0).val < 1024 := ((x : S1024x2048.Idx) 0).isLt
    rw [show (oM.access (oR r)).emb x = _ from oR_emb r x]
    exact Fin.ext (show (1024 * r.val + ((x : S1024x2048.Idx) 0).val) / 1024 = r.val by omega)

/-! ## Loads of a slot stay within its elements -/

theorem load_b (s : Fin 2) : bM.view.setOn (Rect.unit (s := S2x4096x1024) ![s.val, 0, 0] S1x4096x1024.size (inbB s)).toLoadRect.set ⊆ (bSlot s).view.set := by
  intro i hi
  obtain ⟨x, hx, rfl⟩ := Finset.mem_map.mp hi
  rw [← Rect.map_emb_univ] at hx
  obtain ⟨j, -, rfl⟩ := Finset.mem_map.mp hx
  exact (mem_bSlot s _).mpr (congrFun (lead_idx 2 4096 1024 s (inbB s) j) 0)
theorem load_v (k : Fin 3) : vM.view.setOn (Rect.unit (s := S3x1024x2048) ![k.val, 0, 0] S1x1024x2048.size (inbV k)).toLoadRect.set ⊆ (vSlot k).view.set := by
  intro i hi
  obtain ⟨x, hx, rfl⟩ := Finset.mem_map.mp hi
  rw [← Rect.map_emb_univ] at hx
  obtain ⟨j, -, rfl⟩ := Finset.mem_map.mp hx
  exact (mem_vSlot k _).mpr (congrFun (lead_idx 3 1024 2048 k (inbV k) j) 0)
theorem load_q (t : Fin 4) : qM.view.setOn (Rect.unit (s := S4x1024x2048) ![t.val, 0, 0] S1x1024x2048.size (inbQ t)).toLoadRect.set ⊆ (qSlot t).view.set := by
  intro i hi
  obtain ⟨x, hx, rfl⟩ := Finset.mem_map.mp hi
  rw [← Rect.map_emb_univ] at hx
  obtain ⟨j, -, rfl⟩ := Finset.mem_map.mp hx
  exact (mem_qSlot t _).mpr (congrFun (lead_idx 4 1024 2048 t (inbQ t) j) 0)

/-! ## Keys cut a buffer -/

/-- Windows that are the classes of a key are disjoint and cover. -/
theorem key_disjoint {α T : Type} [DecidableEq α] (key : α → T) (K : T → Finset α) (h : ∀ t i, i ∈ K t ↔ key i = t) :
    ∀ t t', t ≠ t' → Disjoint (K t) (K t') := fun t t' hne =>
  Finset.disjoint_left.mpr fun i hi hi' => hne (((h t i).mp hi).symm.trans ((h t' i).mp hi'))
theorem key_cover {α T : Type} [DecidableEq α] [Fintype α] [Fintype T] (key : α → T) (K : T → Finset α) (h : ∀ t i, i ∈ K t ↔ key i = t) :
    Finset.univ.biUnion K = Finset.univ :=
  Finset.eq_univ_iff_forall.mpr fun i => Finset.mem_biUnion.mpr ⟨key i, Finset.mem_univ _, (h _ _).mpr rfl⟩

end Cert.KernelIdeal.Run

end
-- ==== Proof.KernelIdeal.Schedule.lean ====
/-
The protocol: what each landing hands over, who pays which cell, the levels, and what a device still owes at each point
of its program.
-/
module

public import proofs.«01_k».proof.Proof.KernelIdeal.Windows

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The windows, held -/

def rPts (c : Dev nD) (k : Fin 3) (f : Buf (Elt F) ((rSlot k).view.loc (c : Thread nD τ))) : sProp 𝕄 :=
  (rSlot k).view.loc (c : Thread nD τ) ↦[(rSlot k).view.set]{fullShare} f
def vPts (c : Dev nD) (k : Fin 3) (f : Buf (Elt F) ((vSlot k).view.loc (c : Thread nD τ))) : sProp 𝕄 :=
  (vSlot k).view.loc (c : Thread nD τ) ↦[(vSlot k).view.set]{fullShare} f
def qPts (c : Dev nD) (t : Fin 4) (f : Buf (Elt F) ((qSlot t).view.loc (c : Thread nD τ))) : sProp 𝕄 :=
  (qSlot t).view.loc (c : Thread nD τ) ↦[(qSlot t).view.set]{fullShare} f
def bPts (c : Dev nD) (s : Fin 2) (f : Buf (Elt F) ((bSlot s).view.loc (c : Thread nD τ))) : sProp 𝕄 :=
  (bSlot s).view.loc (c : Thread nD τ) ↦[(bSlot s).view.set]{fullShare} f
def wPts (c : Dev nD) (b : Fin 8) : sProp 𝕄 :=
  (wSlab b).view.loc (c : Thread nD τ) ↦[(wSlab b).view.set]{fullShare} wC m c
/-- The sent buffer of maxima, in three shares, one per transfer. -/
abbrev tsh (k : Fin 3) : PosShare TreeShare := Transfers.dealOf fullShare Finset.univ k
def txPts (c : Dev nD) (q : PosShare TreeShare) (f : Buf (Elt F) (txM.view.loc (c : Thread nD τ))) : sProp 𝕄 :=
  txM.view.loc (c : Thread nD τ) ↦[txM.view.set]{q} f

omit [FloatOps F] in
instance rPts_storable (c : Dev nD) (k) (f) : BI.Storable (upEmb : UEmb _ 𝕄) (rPts (F := F) c k f) := by unfold rPts; infer_instance
omit [FloatOps F] in
instance vPts_storable (c : Dev nD) (k) (f) : BI.Storable (upEmb : UEmb _ 𝕄) (vPts (F := F) c k f) := by unfold vPts; infer_instance
omit [FloatOps F] in
instance qPts_storable (c : Dev nD) (k) (f) : BI.Storable (upEmb : UEmb _ 𝕄) (qPts (F := F) c k f) := by unfold qPts; infer_instance
omit [FloatOps F] in
instance txPts_storable (c : Dev nD) (q) (f) : BI.Storable (upEmb : UEmb _ 𝕄) (txPts (F := F) c q f) := by unfold txPts; infer_instance

/-! ## Payloads -/

/-- What the unit device `bwd c k` sends to `c`'s barrier hands over: the two landing places of that device that `c`
    fills. -/
def barPay (c : Dev nD) (k : Fin 3) : sProp 𝕄 := iprop((∃ f, rPts (bwd c k) (opp k) f) ∗ (∃ f, vPts (bwd c k) (opp k) f))
/-- What a landing hands over, by role. -/
def xferPay (c : Dev nD) (r : Fin 4) (k : Fin 3) : sProp 𝕄 := match r with
  | 0 => qPts c (fwd c k) (Q m c)
  | 1 => vPts c k (Rv m c)
  | 2 => txPts c (tsh k) (tx m c)
  | 3 => rPts c k (rx m c)
def payOf (c : Dev nD) (ck : CK) (d : Fin 3) : sProp 𝕄 := match ck with
  | none => barPay c d
  | some (r, k) => xferPay m c r k

instance payOf_storable (c : Dev nD) (ck : CK) (d : Fin 3) : BI.Storable (upEmb : UEmb _ 𝕄) (payOf (F := F) m c ck d) := by
  rcases ck with _ | ⟨r, k⟩
  · show BI.Storable upEmb (barPay c d)
    unfold barPay; infer_instance
  · show BI.Storable upEmb (xferPay m c r k)
    unfold xferPay
    split <;> infer_instance

abbrev dutiesOf : CK → Finset (Fin 3)
  | none => Finset.univ
  | some _ => {0}

/-- One round, round 0: a barrier cell has the three duties of one unit each, any other cell of the ring the duty 0 of
    a landing's credit. -/
def ringRd : Rounds.Schedule (GSem nD τ sig) (Fin 3) 𝕄 where
  duties g r := if r = 0 ∧ g.1.2 = .tc ∧ csem (dec g.2) = g.2 then dutiesOf (dec g.2) else ∅
  unitless _ := False
  amount g _ _ := amt (dec g.2)
  payload g _ d := payOf m g.1.1 (dec g.2) d
  amount_pos g _ _ _ := amt_pos _

instance ringRd_payload_storable (g : GSem nD τ sig) (r : ℕ) (d : Fin 3) :
    BI.Storable (upEmb : UEmb _ 𝕄) ((ringRd (F := F) m).payload g r d) := payOf_storable m _ _ _

section Sched
variable (c : Dev nD)

theorem duties_kcell (ck : CK) : (ringRd (F := F) m).duties (kcell c ck) 0 = dutiesOf ck := by
  dsimp only [ringRd]
  rw [dec_csem]
  exact if_pos ⟨rfl, rfl, rfl⟩
theorem duties_later (g : GSem nD τ sig) : ∀ r, 1 ≤ r → (ringRd (F := F) m).duties g r = ∅ :=
  fun r hr => by dsimp only [ringRd]; rw [if_neg fun h => by omega]
theorem amount_kcell (ck : CK) (d : Fin 3) : (ringRd (F := F) m).amount (kcell c ck) 0 d = amt ck := by
  dsimp only [ringRd]; rw [dec_csem]
theorem payload_kcell (ck : CK) (d : Fin 3) : (ringRd (F := F) m).payload (kcell c ck) 0 d = payOf m c ck d := by
  dsimp only [ringRd]; rw [dec_csem]
theorem mem_duties_bar (d : Fin 3) : d ∈ (ringRd (F := F) m).duties (kcell c none) 0 := by rw [duties_kcell]; exact Finset.mem_univ _
theorem mem_duties_some (r : Fin 4) (k : Fin 3) : (0 : Fin 3) ∈ (ringRd (F := F) m).duties (kcell c (some (r, k))) 0 := by
  rw [duties_kcell]; exact Finset.mem_singleton_self _
theorem expect_bar : (ringRd (F := F) m).expect (kcell c none) 0 = 3 := by
  unfold Schedule.expect Schedule.amountOf
  rw [duties_kcell, Finset.sum_congr rfl fun d _ => amount_kcell m c none d]
  rfl
theorem expect_some (r : Fin 4) (k : Fin 3) : (ringRd (F := F) m).expect (kcell c (some (r, k))) 0 = amt (some (r, k)) := by
  unfold Schedule.expect Schedule.amountOf; rw [duties_kcell, Finset.sum_singleton, amount_kcell]

/-- The barrier's round: the three payloads. -/
theorem rest_bar : bigSep ((ringRd (F := F) m).duties (kcell c none) 0 \ ∅) (fun d => (ringRd (F := F) m).payload (kcell c none) 0 d)
    = iprop(barPay c 0 ∗ barPay c 1 ∗ barPay c 2) := by
  rw [Finset.sdiff_empty, duties_kcell]
  show bigSep Finset.univ _ = _
  rw [bigSep_univ_eq_bigSepL [0, 1, 2] (by decide) (by decide), bigSepL_cons_cons, bigSepL_cons_cons, bigSepL_singleton,
    payload_kcell, payload_kcell, payload_kcell]
  rfl
theorem rest_some (r : Fin 4) (k : Fin 3) :
    bigSep ((ringRd (F := F) m).duties (kcell c (some (r, k))) 0 \ ∅) (fun d => (ringRd (F := F) m).payload (kcell c (some (r, k))) 0 d)
      = xferPay m c r k := by
  rw [Finset.sdiff_empty, duties_kcell]
  show bigSep {0} _ = _
  rw [bigSep_singleton, payload_kcell]
  rfl
end Sched

/-! ## What a device owes: the units and credits of its nine payments to other devices, the last paid first -/

def tck (i : ℕ) : CK := if i < 3 then some (1, ⟨2 - i % 3, by omega⟩) else if i < 6 then some (3, ⟨2 - i % 3, by omega⟩) else none
def tdev (c : Dev nD) (i : ℕ) : Dev nD := fwd c ⟨2 - i % 3, by omega⟩
/-- Before its `n` last payments are made. -/
def Owe (c : Dev nD) : ℕ → CellTallies nD τ sig Unit
  | 0 => 0
  | n + 1 => Owe c n + tallyAt (kcell (tdev c n) (tck n)) () (amt (tck n))

theorem Owe_9 (c : Dev nD) : Owe c 9 = Owe c 8 + tallyAt (kcell (fwd c 0) none) () 1 := rfl
theorem Owe_8 (c : Dev nD) : Owe c 8 = Owe c 7 + tallyAt (kcell (fwd c 1) none) () 1 := rfl
theorem Owe_7 (c : Dev nD) : Owe c 7 = Owe c 6 + tallyAt (kcell (fwd c 2) none) () 1 := rfl
theorem Owe_6 (c : Dev nD) : Owe c 6 = Owe c 5 + tallyAt (kcell (fwd c 0) (some (3, 0))) () NA := rfl
theorem Owe_5 (c : Dev nD) : Owe c 5 = Owe c 4 + tallyAt (kcell (fwd c 1) (some (3, 1))) () NA := rfl
theorem Owe_4 (c : Dev nD) : Owe c 4 = Owe c 3 + tallyAt (kcell (fwd c 2) (some (3, 2))) () NA := rfl
theorem Owe_3 (c : Dev nD) : Owe c 3 = Owe c 2 + tallyAt (kcell (fwd c 0) (some (1, 0))) () ND := rfl
theorem Owe_2 (c : Dev nD) : Owe c 2 = Owe c 1 + tallyAt (kcell (fwd c 1) (some (1, 1))) () ND := rfl
theorem Owe_1 (c : Dev nD) : Owe c 1 = Owe c 0 + tallyAt (kcell (fwd c 2) (some (1, 2))) () ND := rfl
theorem Owe_0 (c : Dev nD) : Owe c 0 = 0 := rfl

theorem Owe_pos {c : Dev nD} {g : GSem nD τ sig} {u : Unit} : ∀ {n : ℕ}, 0 < Owe c n g u → ∃ i, i < n ∧ g = kcell (tdev c i) (tck i)
  | 0, h => absurd h (Nat.lt_irrefl 0)
  | n + 1, h => by
    unfold Owe at h
    rw [Pi.add_apply, Finsupp.add_apply, tallyAt_apply] at h
    by_cases hg : g = kcell (tdev c n) (tck n) ∧ u = ()
    · exact ⟨n, Nat.lt_succ_self n, hg.1⟩
    · rw [if_neg hg, Nat.add_zero] at h
      obtain ⟨i, hi, e⟩ := Owe_pos h
      exact ⟨i, Nat.lt_succ_of_lt hi, e⟩

/-! ## Levels -/

def L (g : GSem nD τ sig) : Finset Unit := if g.1.2 = .tc then {()} else ∅
/-- The barrier at 1, a maximum received at 2, a block received at 3, everything local at 0. -/
def lvS : SemLoc sig → ℕ
  | .reg _ => 1
  | .dma s => if 13 ≤ s.val then 2 else if 7 ≤ s.val ∧ s.val ≤ 9 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a cell below all it owes. -/
theorem mayWait (c : Dev nD) (sm : SemLoc sig) (n : ℕ) (h : ∀ i, i < n → lvS sm < lvS (csem (tck i))) :
    (levAts L lv : sProp 𝕄) ⊢ MayWait (c : Thread nD τ) sm () (Owe c n) :=
  MayOwe.of_cut (L := L) (lev := lv) (lvS sm) (fun p hp => by rw [Finset.mem_singleton.mp hp, L_tc]; exact Finset.mem_singleton_self _)
    (fun g u hg => by obtain ⟨i, hi, rfl⟩ := Owe_pos hg; rw [L_tc]; exact Finset.mem_singleton_self _)
    (fun p hp => by rw [Finset.mem_singleton.mp hp]; exact le_refl _)
    (fun g u hg => by obtain ⟨i, hi, rfl⟩ := Owe_pos hg; exact h i hi)

theorem lv_bar : ∀ i, i < 6 → lvS (csem none) < lvS (csem (tck i)) := by decide +kernel
theorem lv_w (s : Fin 2) : ∀ i, i < 6 → lvS (.dma (wsem s)) < lvS (csem (tck i)) := by revert s; decide +kernel
theorem lv_as (k : Fin 3) : ∀ i, i < 3 → lvS (csem (some (2, k))) < lvS (csem (tck i)) := by revert k; decide +kernel
theorem lv_ar (k : Fin 3) : ∀ i, i < 3 → lvS (csem (some (3, k))) < lvS (csem (tck i)) := by revert k; decide +kernel
theorem lv_any (sm : SemLoc sig) : ∀ i, i < 0 → lvS sm < lvS (csem (tck i)) := fun i h => absurd h (Nat.not_lt_zero i)

/-! ## The records: every cell's invariant and that round 0 of it is reached -/

def records (K : Dev nD × CK → ℕ) : sProp 𝕄 :=
  iprop((bigSep Finset.univ fun ck : Dev nD × CK => cellInv ER (ringRd m) (K ck) (kcell ck.1 ck.2))
    ∗ bigSep Finset.univ fun ck : Dev nD × CK => reached ER (kcell ck.1 ck.2) 0)
instance records_persistent (K : Dev nD × CK → ℕ) : BI.Persistent (records (F := F) m K) := by unfold records; infer_instance

omit [FloatOps F] in
/-- One summand of many. -/
theorem bigSep_pick {T : Type} [Fintype T] [DecidableEq T] (t : T) {Φ : T → sProp 𝕄} : (bigSep Finset.univ Φ : sProp 𝕄) ⊢ Φ t := by
  rw [bigSep_erase (Finset.mem_univ t)]
  show (iprop(Φ t ∗ bigSep (Finset.univ.erase t) Φ) : sProp 𝕄) ⊢ Φ t
  iintro ⟨H, -⟩
  iexact H
theorem records_inv (K : Dev nD × CK → ℕ) (c : Dev nD) (ck : CK) : records (F := F) m K ⊢ cellInv ER (ringRd m) (K (c, ck)) (kcell c ck) := by
  unfold records
  iintro ⟨H, -⟩
  ihave H' := (bigSep_pick (c, ck) (Φ := fun ck : Dev nD × CK => (cellInv ER (ringRd m) (K ck) (kcell ck.1 ck.2) : sProp 𝕄))) $$ H
  iexact H'
theorem records_reached (K : Dev nD × CK → ℕ) (c : Dev nD) (ck : CK) : records (F := F) m K ⊢ reached ER (kcell c ck) 0 := by
  unfold records
  iintro ⟨-, H⟩
  ihave H' := (bigSep_pick (c, ck) (Φ := fun ck : Dev nD × CK => (reached ER (kcell ck.1 ck.2) 0 : sProp 𝕄))) $$ H
  iexact H'

end Cert.KernelIdeal.Run

end
-- ==== Proof.KernelIdeal.Steps.lean ====
/-
One lemma per kind of step of the kernel, over the windows of `Schedule`: each states what the step needs and what the
rest of the program then has.
-/
module

public import proofs.«01_k».proof.Proof.KernelIdeal.Schedule

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What the device owes before its `n` last payments, whatever waits it has recorded. -/
def owesX (c : Dev nD) (n : ℕ) : sProp 𝕄 := iprop(∃ W : Waits sig Unit, owes (c : Thread nD τ) (Owe c n) W)

/-- A copy of block `b` of the right operand into staging slot `s`, under way. -/
def WFl (c : Dev nD) (s : Fin 2) (b : Fin 8) : sProp 𝕄 :=
  Transfers.Flight countersEmb (c : Thread nD τ) (.dma (wsS s)) () NW iprop(bPts c s (bC m c b) ∗ wPts m c b)

section Steps
variable (c : Dev nD) {α : Type} {Ψ : α → sProp (MT nD τ sig Unit (Elt F) ℕ UU ℕ)}

/-! ## The local copies -/

theorem wp_w_start (s : Fin 2) (b : Fin 8) (f : Buf (Elt F) ((bSlot s).view.loc (c : Thread nD τ)))
    {hsrc : (wSlab b).view.WordExact} {hdst : (bSlot s).view.WordExact} {hsem : (DmaTarget.here (nD := nD) (τ := τ) (p := .tc) (bSlot s)).Typed .hbm (.dma (wsS s))}
    {k : PUnit → Prog (TpuEff nD τ sig (Elt F) Λ₀ .tc) α} :
    iprop(wPts m c b ∗ bPts c s f ∗ semVal ((c : Thread nD τ), .dma (wsS s)) 0)
      ⊢ iprop((WFl m c s b -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma (wSlab b) (.here (bSlot s)) (.dma (wsS s)) hsrc hdst hsem) k) Ψ) := by
  unfold wPts bPts WFl
  iintro H Hk
  iapply (Transfers.wp_dmaLocal countersEmb 𝒱₀ (c : Thread nD τ) none (Sd := (bSlot s).view.set) (fs := wC m c) (fd := f) () NW rfl NW_pos subset_rfl) $$ H
  iintro HF
  iapply Hk
  iapply (Transfers.Flight_mono countersEmb (c : Thread nD τ) ?_) $$ HF
  exact sep_mono_left (Entails.of_eq (pointsTo_congr fun i hi => land_b m c s b f i hi))

theorem wp_w_wait (s : Fin 2) (b : Fin 8) {srcw : Memref sig .tc .hbm S4096x1024 .bf16} {dstw : Memref sig .tc .vmem S4096x1024 .bf16} {hsrc : srcw.view.WordExact} {hdst : dstw.view.WordExact} (hN : dstw.view.dmaCredit = NW)
    {k : PUnit → Prog (TpuEff nD τ sig (Elt F) Λ₀ .tc) α} :
    iprop(WFl m c s b ∗ owesX c 6 ∗ levAts L lv)
      ⊢ iprop(((bPts c s (bC m c b) ∗ wPts m c b ∗ semVal ((c : Thread nD τ), .dma (wsS s)) 0 ∗ owesX c 6)
            -∗ wp frame (wpE (defs₀ (F := F)) 𝒱₀ (c : Thread nD τ) none) Set.univ (k ⟨⟩) Ψ)
          -∗ wp frame (wpE (defs₀ (F := F)) 𝒱₀ (c : Thread nD τ) none) Set.univ
              (.op (.waitDma2 (wsS s) srcw dstw hsrc hdst) k) Ψ) := by
  unfold WFl owesX
  iintro ⟨HF, ⟨%W, HO⟩, Hlev⟩ Hk
  iapply (Transfers.wp_waitLocalO countersEmb 𝒱₀ (c : Thread nD τ) none () (N := NW) hN (O := Owe c 6) (W := W)) $$ [HF HO Hlev]
  · isplitl [HF]; · iexact HF
    isplitl [HO]; · iexact HO
    iapply (mayWait c (.dma (wsS s)) 6 (by rw [wsS_eq]; exact lv_w s)) $$ Hlev
  iintro ⟨⟨HB, HW⟩, Hs, HO⟩
  iapply Hk
  isplitl [HB]; · iexact HB
  isplitl [HW]; · iexact HW
  isplitl [Hs]; · iexact Hs
  iexists _; iexact HO

/-! ## Loads and stores -/

theorem wp_load_b (s : Fin 2) (b : Fin 8) {h : bM.view.LoadsAt (Rect.unit (s := S2x4096x1024) ![s.val, 0, 0] S1x4096x1024.size (inbB s)).toLoadRect}
    {k : Vec F S1x4096x1024 .bf16 → Prog (TpuEff nD τ sig (Elt F) Λ₀ .tc) α} :
    bPts c s (bC m c b)
      ⊢ iprop((bPts c s (bC m c b) -∗ wp frame (wpE (defs₀ (F := F)) 𝒱₀ (c : Thread nD τ) none) Set.univ (k (W m c b)) Ψ)
          -∗ wp frame (wpE (defs₀ (F := F)) 𝒱₀ (c : Thread nD τ) none) Set.univ
              (.op (.load bM (Rect.unit (s := S2x4096x1024) ![s.val, 0, 0] S1x4096x1024.size (inbB s)).toLoadRect h) k) Ψ) := by
  unfold bPts
  iintro H Hk
  iapply (wp_load 𝒱₀ (c : Thread nD τ) none Set.univ (m := bM) (load_b s)) $$ H
  iintro H
  rw [read_b]
  iapply Hk $$ H

/-- The product's buffer, of which the blocks `D` are filled. -/
def yPts (c : Dev nD) (D : Finset (Fin 8)) : sProp 𝕄 :=
  iprop(∃ f : FVec F S1024x8192 .f32, ⌜∀ i, yKey i ∈ D → f i = Y m c i⌝ ∗ (yM.view.loc (c : Thread nD τ) ↦{fullShare} f))
/-- The quantised blocks, of which those in `D` are filled. -/
def qbPts (c : Dev nD) (D : Finset (Fin 4)) : sProp 𝕄 :=
  iprop(∃ f : FVec F S4x1024x2048 .fp8e4m3, ⌜∀ i, qKey i ∈ D → f i = Q m c i⌝ ∗ (qM.view.loc (c : Thread nD τ) ↦{fullShare} f))
/-- The result's buffer, of which the row blocks `D` are filled. -/
def oPts (c : Dev nD) (D : Finset (Fin 4)) : sProp 𝕄 :=
  iprop(∃ f : FVec F S4096x2048 .bf16, ⌜∀ i, oKey i ∈ D → f i = O m c i⌝ ∗ (oM.view.loc (c : Thread nD τ) ↦{fullShare} f))

theorem wp_peek_y (D : Finset (Fin 8)) {r : LoadRect S1024x8192} {h : yM.view.LoadsAt r}
    {k : (r.shape.Idx → Elt F .f32) → Prog (TpuEff nD τ sig (Elt F) Λ₀ .tc) α} :
    yPts m c D
      ⊢ iprop((∀ v, yPts m c D -∗ wp frame (wpE (defs₀ (F := F)) 𝒱₀ (c : Thread nD τ) none) Set.univ (k v) Ψ)
          -∗ wp frame (wpE (defs₀ (F := F)) 𝒱₀ (c : Thread nD τ) none) Set.univ (.op (.load yM r h) k) Ψ) := by
  unfold yPts
  iintro ⟨%f, %hf, H⟩ Hk
  iapply (wp_load 𝒱₀ (c : Thread nD τ) none Set.univ (m := yM) (Finset.subset_univ _)) $$ H
  iintro H
  iapply Hk
  iexists f
  isplitr
  · ipureintro; exact hf
  · iexact H
theorem wp_peek_q (D : Finset (Fin 4)) {r : LoadRect S4x1024x2048} {h : qM.view.LoadsAt r}
    {k : (r.shape.Idx → Elt F .fp8e4m3) → Prog (TpuEff nD τ sig (Elt F) Λ₀ .tc) α} :
    qbPts m c D
      ⊢ iprop((∀ v, qbPts m c D -∗ wp frame (wpE (defs₀ (F := F)) 𝒱₀ (c : Thread nD τ) none) Set.univ (k v) Ψ)
          -∗ wp frame (wpE (defs₀ (F := F)) 𝒱₀ (c : Thread nD τ) none) Set.univ (.op (.load qM r h) k) Ψ) := by
  unfold qbPts
  iintro ⟨%f, %hf, H⟩ Hk
  iapply (wp_load 𝒱₀ (c : Thread nD τ) none Set.univ (m := qM) (Finset.subset_univ _)) $$ H
  iintro H
  iapply Hk
  iexists f
  isplitr
  · ipureintro; exact hf
  · iexact H
theorem wp_peek_o (D : Finset (Fin 4)) {r : LoadRect S4096x2048} {h : oM.view.LoadsAt r}
    {k : (r.shape.Idx → Elt F .bf16) → Prog (TpuEff nD τ sig (Elt F) Λ₀ .tc) α} :
    oPts m c D
      ⊢ iprop((∀ v, oPts m c D -∗ wp frame (wpE (defs₀ (F := F)) 𝒱₀ (c : Thread nD τ) none) Set.univ (k v) Ψ)
          -∗ wp frame (wpE (defs₀ (F := F)) 𝒱₀ (c : Thread nD τ) none) Set.univ (.op (.load oM r h) k) Ψ) := by
  unfold oPts
  iintro ⟨%f, %hf, H⟩ Hk
  iapply (wp_load 𝒱₀ (c : Thread nD τ) none Set.univ (m := oM) (Finset.subset_univ _)) $$ H
  iintro H
  iapply Hk
  iexists f
  isplitr
  · ipureintro; exact hf
  · iexact H

/-- A store fills one more block. -/
theorem fill {α T : Type} {β : α → Type} [DecidableEq T] (key : α → T) (D : Finset T) (b : T) (f f' g : ∀ i, β i) (hf : ∀ i, key i ∈ D → f i = g i)
    (h : ∀ i, f' i = if key i = b then g i else f i) : ∀ i, key i ∈ insert b D → f' i = g i := fun i hi => by
  rw [h i]
  by_cases e : key i = b
  · rw [if_pos e]
  · rw [if_neg e]
    exact hf i ((Finset.mem_insert.mp hi).resolve_left e)

theorem wp_store_y (D : Finset (Fin 8)) (b : Fin 8) {w : (yR b).shape.Idx → Elt F .f32} (hw : w = k0_pay3 (X m c) (W m c b))
    {hx : (yM.access (yR b)).Stores Finset.univ} {hm : (Finset.univ : Finset (yR b).shape.Idx) = Finset.univ ∨ ∀ a, (yR b).stride a = 1}
    {k : PUnit → Prog (TpuEff nD τ sig (Elt F) Λ₀ .tc) α} :
    yPts m c D
      ⊢ iprop((yPts m c (insert b D) -∗ wp frame (wpE (defs₀ (F := F)) 𝒱₀ (c : Thread nD τ) none) Set.univ (k ⟨⟩) Ψ)
          -∗ wp frame (wpE (defs₀ (F := F)) 𝒱₀ (c : Thread nD τ) none) Set.univ (.op (.store yM (yR b) w Finset.univ hx hm) k) Ψ) := by
  subst hw
  unfold yPts
  iintro ⟨%f, %hf, H⟩ Hk
  iapply (wp_store 𝒱₀ (c : Thread nD τ) none Set.univ (m := yM) (r := yR b) (Mk := Finset.univ) (Finset.subset_univ _)) $$ H
  iintro H
  iapply Hk
  iexists _
  isplitr
  rotate_left
  · iexact H
  · ipureintro; exact fill yKey D b _ _ _ hf (store_y m c b f)
theorem wp_store_q (D : Finset (Fin 4)) (t : Fin 4) {w : (qR t).shape.Idx → Elt F .fp8e4m3} (hw : w = k0_pay29 (inv m c) (Ysl m c t))
    {hx : (qM.access (qR t)).Stores Finset.univ} {hm : (Finset.univ : Finset (qR t).shape.Idx) = Finset.univ ∨ ∀ a, (qR t).stride a = 1}
    {k : PUnit → Prog (TpuEff nD τ sig (Elt F) Λ₀ .tc) α} :
    qbPts m c D
      ⊢ iprop((qbPts m c (insert t D) -∗ wp frame (wpE (defs₀ (F := F)) 𝒱₀ (c : Thread nD τ) none) Set.univ (k ⟨⟩) Ψ)
          -∗ wp frame (wpE (defs₀ (F := F)) 𝒱₀ (c : Thread nD τ) none) Set.univ (.op (.store qM (qR t) w Finset.univ hx hm) k) Ψ) := by
  subst hw
  unfold qbPts
  iintro ⟨%f, %hf, H⟩ Hk
  iapply (wp_store 𝒱₀ (c : Thread nD τ) none Set.univ (m := qM) (r := qR t) (Mk := Finset.univ) (Finset.subset_univ _)) $$ H
  iintro H
  iapply Hk
  iexists _
  isplitr
  rotate_left
  · iexact H
  · ipureintro; exact fill qKey D t _ _ _ hf (store_q m c t f)
theorem wp_store_o (D : Finset (Fin 4)) (r : Fin 4) {off : Fin 2 → ℕ} (hoff : off = ![1024 * r.val, 0])
    {inb : ∀ a, off a + S1024x2048.size a ≤ S4096x2048.size a}
    {w : (Rect.unit (s := S4096x2048) off S1024x2048.size inb).shape.Idx → Elt F .bf16} (hw : w = k0_pay33 (scl m c) (qrow m c r))
    {hx : (oM.access (Rect.unit (s := S4096x2048) off S1024x2048.size inb)).Stores Finset.univ}
    {hm : (Finset.univ : Finset (Rect.unit (s := S4096x2048) off S1024x2048.size inb).shape.Idx) = Finset.univ ∨ ∀ a, (Rect.unit (s := S4096x2048) off S1024x2048.size inb).stride a = 1}
    {k : PUnit → Prog (TpuEff nD τ sig (Elt F) Λ₀ .tc) α} :
    oPts m c D
      ⊢ iprop((oPts m c (insert r D) -∗ wp frame (wpE (defs₀ (F := F)) 𝒱₀ (c : Thread nD τ) none) Set.univ (k ⟨⟩) Ψ)
          -∗ wp frame (wpE (defs₀ (F := F)) 𝒱₀ (c : Thread nD τ) none) Set.univ
              (.op (.store oM (Rect.unit (s := S4096x2048) off S1024x2048.size inb) w Finset.univ hx hm) k) Ψ) := by
  subst hoff hw
  unfold oPts
  iintro ⟨%f, %hf, H⟩ Hk
  iapply (wp_store 𝒱₀ (c : Thread nD τ) none Set.univ (m := oM) (r := oR r) (Mk := Finset.univ) (Finset.subset_univ _)) $$ H
  iintro H
  iapply Hk
  iexists _
  isplitr
  rotate_left
  · iexact H
  · ipureintro; exact fill oKey D r _ _ _ hf (store_o m c r f)

theorem yPts_all (D : Finset (Fin 8)) (h : D = Finset.univ) : yPts m c D ⊢ (yM.view.loc (c : Thread nD τ) ↦{fullShare} Y m c) := by
  subst h
  unfold yPts
  iintro ⟨%f, %hf, H⟩
  rw [show f = Y m c from funext fun i => hf i (Finset.mem_univ _)]
  iexact H
theorem qbPts_all (D : Finset (Fin 4)) (h : D = Finset.univ) : qbPts m c D ⊢ (qM.view.loc (c : Thread nD τ) ↦{fullShare} Q m c) := by
  subst h
  unfold qbPts
  iintro ⟨%f, %hf, H⟩
  rw [show f = Q m c from funext fun i => hf i (Finset.mem_univ _)]
  iexact H
theorem oPts_all (D : Finset (Fin 4)) (h : D = Finset.univ) : oPts m c D ⊢ (oM.view.loc (c : Thread nD τ) ↦{fullShare} O m c) := by
  subst h
  unfold oPts
  iintro ⟨%f, %hf, H⟩
  rw [show f = O m c from funext fun i => hf i (Finset.mem_univ _)]
  iexact H

/-- A column block of the finished product, read. -/
theorem wp_load_y (t : Fin 4) {h : yM.view.LoadsAt (Rect.unit (s := S1024x8192) ![0, 2048 * t.val] S1024x2048.size (inbYt t)).toLoadRect}
    {k : Vec F S1024x2048 .f32 → Prog (TpuEff nD τ sig (Elt F) Λ₀ .tc) α} :
    (yM.view.loc (c : Thread nD τ) ↦{fullShare} Y m c)
      ⊢ iprop(((yM.view.loc (c : Thread nD τ) ↦{fullShare} Y m c) -∗ wp frame (wpE (defs₀ (F := F)) 𝒱₀ (c : Thread nD τ) none) Set.univ (k (Ysl m c t)) Ψ)
          -∗ wp frame (wpE (defs₀ (F := F)) 𝒱₀ (c : Thread nD τ) none) Set.univ
              (.op (.load yM (Rect.unit (s := S1024x8192) ![0, 2048 * t.val] S1024x2048.size (inbYt t)).toLoadRect h) k) Ψ) := by
  iintro H Hk
  iapply (wp_load 𝒱₀ (c : Thread nD τ) none Set.univ (m := yM) (Finset.subset_univ _)) $$ H
  iintro H
  rw [read_y]
  iapply Hk $$ H
/-- A landed maximum, read. -/
theorem wp_load_r (k₀ : Fin 3) {h : rxM.view.LoadsAt (Rect.unit (s := S3x8x128) ![k₀.val, 0, 0] S1x8x128.size (inbR k₀)).toLoadRect}
    {k : Vec F S1x8x128 .f32 → Prog (TpuEff nD τ sig (Elt F) Λ₀ .tc) α} :
    (rxM.view.loc (c : Thread nD τ) ↦{fullShare} rx m c)
      ⊢ iprop(((rxM.view.loc (c : Thread nD τ) ↦{fullShare} rx m c) -∗ wp frame (wpE (defs₀ (F := F)) 𝒱₀ (c : Thread nD τ) none) Set.univ (k (rxv m c k₀)) Ψ)
          -∗ wp frame (wpE (defs₀ (F := F)) 𝒱₀ (c : Thread nD τ) none) Set.univ
              (.op (.load rxM (Rect.unit (s := S3x8x128) ![k₀.val, 0, 0] S1x8x128.size (inbR k₀)).toLoadRect h) k) Ψ) := by
  iintro H Hk
  iapply (wp_load 𝒱₀ (c : Thread nD τ) none Set.univ (m := rxM) (Finset.subset_univ _)) $$ H
  iintro H
  rw [read_r]
  iapply Hk $$ H
/-- A landed block, read. -/
theorem wp_load_v (k₀ : Fin 3) {h : vM.view.LoadsAt (Rect.unit (s := S3x1024x2048) ![k₀.val, 0, 0] S1x1024x2048.size (inbV k₀)).toLoadRect}
    {k : Vec F S1x1024x2048 .fp8e4m3 → Prog (TpuEff nD τ sig (Elt F) Λ₀ .tc) α} :
    vPts c k₀ (Rv m c)
      ⊢ iprop((vPts c k₀ (Rv m c) -∗ wp frame (wpE (defs₀ (F := F)) 𝒱₀ (c : Thread nD τ) none) Set.univ (k (qrow m c (bwd c k₀))) Ψ)
          -∗ wp frame (wpE (defs₀ (F := F)) 𝒱₀ (c : Thread nD τ) none) Set.univ
              (.op (.load vM (Rect.unit (s := S3x1024x2048) ![k₀.val, 0, 0] S1x1024x2048.size (inbV k₀)).toLoadRect h) k) Ψ) := by
  unfold vPts
  iintro H Hk
  iapply (wp_load 𝒱₀ (c : Thread nD τ) none Set.univ (m := vM) (load_v k₀)) $$ H
  iintro H
  rw [read_v]
  iapply Hk $$ H
/-- The block the device keeps, read. -/
theorem wp_load_q {off : Fin 3 → ℕ} (hoff : off = ![c.val, 0, 0]) {inb : ∀ a, off a + S1x1024x2048.size a ≤ S4x1024x2048.size a}
    {h : qM.view.LoadsAt (Rect.unit (s := S4x1024x2048) off S1x1024x2048.size inb).toLoadRect}
    {k : Vec F S1x1024x2048 .fp8e4m3 → Prog (TpuEff nD τ sig (Elt F) Λ₀ .tc) α} :
    qPts c c (Q m c)
      ⊢ iprop((qPts c c (Q m c) -∗ wp frame (wpE (defs₀ (F := F)) 𝒱₀ (c : Thread nD τ) none) Set.univ (k (qrow m c c)) Ψ)
          -∗ wp frame (wpE (defs₀ (F := F)) 𝒱₀ (c : Thread nD τ) none) Set.univ
              (.op (.load qM (Rect.unit (s := S4x1024x2048) off S1x1024x2048.size inb).toLoadRect h) k) Ψ) := by
  subst hoff
  unfold qPts
  iintro H Hk
  iapply (wp_load 𝒱₀ (c : Thread nD τ) none Set.univ (m := qM) (load_q c)) $$ H
  iintro H
  rw [show qM.view.readAt (Elt F) (Rect.unit (s := S4x1024x2048) ![c.val, 0, 0] S1x1024x2048.size inb).toLoadRect (Q m c) = qrow m c c from read_q m c c]
  iapply Hk $$ H

end Steps

end Cert.KernelIdeal.Run

end
-- ==== Proof.KernelIdeal.Protocol.lean ====
/-
The steps that touch other devices: signalling their barriers, waiting at one's own, sending a maximum or a quantised
block, and waiting for a transfer, sent or received.
-/
module

public import proofs.«01_k».proof.Proof.KernelIdeal.Steps

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × CK → ℕ) (c : Dev nD) {α : Type} {Ψ : α → sProp (MT nD τ sig Unit (Elt F) ℕ UU ℕ)}

/-- A unit to the device `k + 1` steps ahead, with the two landing places it fills. -/
theorem wp_sig (k₀ : Fin 3) (n : ℕ) {n' : Dev nD} (hn : n' = fwd c k₀) (hO : Owe c (n + 1) = Owe c n + tallyAt (kcell (fwd c k₀) none) () 1)
    {a : ℕ} (ha : 1 = a) {k : PUnit → Prog (TpuEff nD τ sig (Elt F) Λ₀ .tc) α} :
    iprop(records m K ∗ owesX c (n + 1) ∗ dutyTok ER (kcell (fwd c k₀) none) 0 k₀ ∗ (∃ f, rPts c (opp k₀) f) ∗ (∃ f, vPts c (opp k₀) f))
      ⊢ iprop((owesX c n -∗ wp frame (wpE (defs₀ (F := F)) 𝒱₀ (c : Thread nD τ) none) Set.univ (k ⟨⟩) Ψ)
          -∗ wp frame (wpE (defs₀ (F := F)) 𝒱₀ (c : Thread nD τ) none) Set.univ (.op (.semSignal (n' : Thread nD τ) barS a) k) Ψ) := by
  subst hn ha
  unfold owesX
  iintro ⟨#Hr, ⟨%W, HO⟩, Ht, HR, HV⟩ Hk
  iapply (Rounds.wp_signal 𝒱₀ ER (ringRd m) (c : Thread nD τ) none (dst := (fwd c k₀ : Thread nD τ)) (κ := K (fwd c k₀, none))
      (d := k₀) (mem_duties_bar m (fwd c k₀) k₀) (amount_kcell m (fwd c k₀) none k₀) () (Owe c n) hO (W := W)) $$ [HO Ht HR HV]
  · isplitr; · iapply (records_inv m K (fwd c k₀) none) $$ Hr
    isplitl [HO]; · iexact HO
    isplitl [Ht]; · iexact Ht
    isplitl [HR HV]
    · iapply (show _ ⊢ (ringRd (F := F) m).payload ((fwd c k₀ : Thread nD τ), SemLoc.reg barS) 0 k₀ from Entails.of_eq (payload_kcell m (fwd c k₀) none k₀).symm)
      unfold payOf barPay
      rw [bwd_fwd]
      isplitl [HR] <;> iassumption
    iapply (records_reached m K (fwd c k₀) none) $$ Hr
  iintro HO
  iapply Hk
  iexists W; iexact HO

/-- The wait for all three units: the landing places on the other devices, and the counter is zero again. -/
theorem wp_bar {a : ℕ} (ha : 3 = a) {k : PUnit → Prog (TpuEff nD τ sig (Elt F) Λ₀ .tc) α} :
    iprop(records m K ∗ cred (tallyAt (kcell c none) () 3) ∗ owesX c 6 ∗ levAts L lv ∗ atPos ER (kcell c none) 0 ∅ 0)
      ⊢ iprop(((owesX c 6 ∗ (barPay c 0 ∗ barPay c 1 ∗ barPay c 2) ∗ semVal (kcell c none) 0)
            -∗ wp frame (wpE (defs₀ (F := F)) 𝒱₀ (c : Thread nD τ) none) Set.univ (k ⟨⟩) Ψ)
          -∗ wp frame (wpE (defs₀ (F := F)) 𝒱₀ (c : Thread nD τ) none) Set.univ (.op (.semWait barS a) k) Ψ) := by
  subst ha
  unfold owesX
  iintro ⟨#Hr, Hc, ⟨%W, HO⟩, #Hlev, Hat⟩ Hk
  iapply (Rounds.wp_wait_rest_token 𝒱₀ ER (ringRd m) (c : Thread nD τ) none (κ := K (c, none))
      (wpE_semWait_eq 𝒱₀ (c : Thread nD τ) none Set.univ) (Set.mem_univ _) () (O := Owe c 6) (W := W) (R := 0) (m := 0) (T := ∅)
      (by rw [show (((c : Thread nD τ), SemLoc.reg barS) : GSem nD τ sig) = kcell c none from rfl, expect_bar])) $$ [Hc HO Hat]
  · isplitr; · iapply (records_inv m K c none) $$ Hr
    isplitl [Hc]; · iexact Hc
    isplitl [HO]; · iexact HO
    isplitr; · iapply (mayWait c (.reg barS) 6 lv_bar) $$ Hlev
    iexact Hat
  iintro ⟨HO, Hat, -, Hpay⟩
  ihave Hp := (show bigSep ((ringRd (F := F) m).duties ((c : Thread nD τ), SemLoc.reg barS) 0 \ ∅) (fun d => (ringRd (F := F) m).payload ((c : Thread nD τ), SemLoc.reg barS) 0 d) ⊢ _ from Entails.of_eq (rest_bar m c)) $$ Hpay
  imod (Rounds.cell_close ER (ringRd m) (Set.mem_univ (K (c, none))) (fun h => h) (R := 0 + 1) (duties_later m (kcell c none))) $$ [Hat] with Hz
  · isplitr; · iapply (records_inv m K c none) $$ Hr
    iexact Hat
  iapply Hk
  isplitl [HO]; · iexists _; iexact HO
  isplitl [Hp]; · iexact Hp
  iexact Hz

/-- A wait for a transfer, sent or received: what it hands over, and the counter is zero again. -/
theorem wp_xfer (r : Fin 4) (k₀ : Fin 3) (n : ℕ) {sem : DmaSem sig} (hs : sem = dsem r k₀) (hl : ∀ i, i < n → lvS (csem (some (r, k₀))) < lvS (csem (tck i)))
    {sp sp' : Space} {s s' : Shape} {e e' : EltTy} {srcw : Memref sig .tc sp' s' e'} {dstw : Memref sig .tc sp s e}
    {hsrc : srcw.view.WordExact} {hdst : dstw.view.WordExact} (hN : dstw.view.dmaCredit = amt (some (r, k₀)))
    {k : PUnit → Prog (TpuEff nD τ sig (Elt F) Λ₀ .tc) α} :
    iprop(records m K ∗ cred (tallyAt (kcell c (some (r, k₀))) () (amt (some (r, k₀)))) ∗ owesX c n ∗ levAts L lv ∗ atPos ER (kcell c (some (r, k₀))) 0 ∅ 0)
      ⊢ iprop(((owesX c n ∗ xferPay m c r k₀ ∗ semVal (kcell c (some (r, k₀))) 0)
            -∗ wp frame (wpE (defs₀ (F := F)) 𝒱₀ (c : Thread nD τ) none) Set.univ (k ⟨⟩) Ψ)
          -∗ wp frame (wpE (defs₀ (F := F)) 𝒱₀ (c : Thread nD τ) none) Set.univ (.op (.waitDma2 sem srcw dstw hsrc hdst) k) Ψ) := by
  subst hs
  unfold owesX
  iintro ⟨#Hr, Hc, ⟨%W, HO⟩, #Hlev, Hat⟩ Hk
  rw [← hN]
  iapply (Rounds.wp_wait_rest_token 𝒱₀ ER (ringRd m) (c : Thread nD τ) none (κ := K (c, some (r, k₀)))
      (wpE_waitDma2_eq 𝒱₀ (c : Thread nD τ) none Set.univ) (Set.mem_univ _) () (O := Owe c n) (W := W) (R := 0) (m := 0) (T := ∅)
      (by rw [Nat.zero_add]; exact hN.trans (expect_some m c r k₀).symm)) $$ [Hc HO Hat]
  · isplitr; · iapply (records_inv m K c (some (r, k₀))) $$ Hr
    isplitl [Hc]; · iexact Hc
    isplitl [HO]; · iexact HO
    isplitr; · iapply (mayWait c (.dma (dsem r k₀)) n hl) $$ Hlev
    iexact Hat
  iintro ⟨HO, Hat, -, Hpay⟩
  ihave Hp := (show bigSep ((ringRd (F := F) m).duties ((c : Thread nD τ), SemLoc.dma (dsem r k₀)) 0 \ ∅) (fun d => (ringRd (F := F) m).payload ((c : Thread nD τ), SemLoc.dma (dsem r k₀)) 0 d) ⊢ _ from Entails.of_eq (rest_some m c r k₀)) $$ Hpay
  imod (Rounds.cell_close ER (ringRd m) (Set.mem_univ (K (c, some (r, k₀)))) (fun h => h) (R := 0 + 1) (duties_later m (kcell c (some (r, k₀))))) $$ [Hat] with Hz
  · isplitr; · iapply (records_inv m K c (some (r, k₀))) $$ Hr
    iexact Hat
  iapply Hk
  isplitl [HO]; · iexists _; iexact HO
  isplitl [Hp]; · iexact Hp
  iexact Hz

/-- The maximum sent to the device `k + 1` steps ahead. -/
theorem wp_send_a (k₀ : Fin 3) (n : ℕ) {n' : Dev nD} (hn : n' = fwd c k₀) {sS sR : DmaSem sig} (hsS : sS = dsem 2 k₀) (hsR : sR = dsem 3 k₀)
    (hO : Owe c (n + 1) = Owe c n + tallyAt (kcell (fwd c k₀) (some (3, k₀))) () NA)
    {hsc : (rSlot k₀ : Memref sig (Dev.tc n' : Thread nD τ).2.kind .vmem S8x128 .f32).view.ref.isScScratch = false}
    {hsrc : (txM : Memref sig .tc .vmem S8x128 .f32).view.WordExact} {hdst : (rSlot k₀).view.WordExact}
    {hsem : (DmaTarget.remote (p := .tc) (Dev.tc n' : Thread nD τ) (rSlot k₀ : Memref sig (Dev.tc n' : Thread nD τ).2.kind .vmem S8x128 .f32) (.dma sS) hsc).Typed .vmem (.dma sR)}
    {k : PUnit → Prog (TpuEff nD τ sig (Elt F) Λ₀ .tc) α} :
    iprop(records m K ∗ owesX c (n + 1) ∗ txPts c (tsh k₀) (tx m c) ∗ (∃ f, rPts (fwd c k₀) k₀ f)
        ∗ dutyTok ER (kcell c (some (2, k₀))) 0 0 ∗ dutyTok ER (kcell (fwd c k₀) (some (3, k₀))) 0 0)
      ⊢ iprop(((owesX c n ∗ cred (tallyAt (kcell c (some (2, k₀))) () NA)) -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma txM (.remote (Dev.tc n' : Thread nD τ) (rSlot k₀) (.dma sS) hsc) (.dma sR) hsrc hdst hsem) k) Ψ) := by
  subst hn hsS hsR
  unfold owesX txPts rPts
  iintro ⟨#Hr, ⟨%W, HO⟩, Htx, ⟨%fd, Hrx⟩, HtS, HtR⟩ Hk
  iapply (Rounds.wp_send_pointsTo 𝒱₀ ER (ringRd m) (c : Thread nD τ) none (κ₁ := K (c, some (2, k₀))) (κ₂ := K (fwd c k₀, some (3, k₀)))
    (r₁ := 0) (r₂ := 0) (d₁ := 0) (d₂ := 0) (fd := fd)
    (mem_duties_some m c 2 k₀) (mem_duties_some m (fwd c k₀) 3 k₀)
    () () NA rfl (amount_kcell m c (some (2, k₀)) 0) (amount_kcell m (fwd c k₀) (some (3, k₀)) 0) (Owe c n) hO (W := W)
    (Entails.of_eq (payload_kcell m c (some (2, k₀)) 0).symm)
    ((Entails.of_eq (pointsTo_congr fun i hi => by
      have h := land_r m (fwd c k₀) k₀ fd i hi
      rw [bwd_fwd] at h
      exact h)).trans (Entails.of_eq (payload_kcell m (fwd c k₀) (some (3, k₀)) 0).symm))) $$ [HO Htx Hrx HtS HtR]
  · isplitr; · iapply (records_inv m K c (some (2, k₀))) $$ Hr
    isplitr; · iapply (records_inv m K (fwd c k₀) (some (3, k₀))) $$ Hr
    isplitl [Htx]; · iexact Htx
    isplitl [Hrx]; · iexact Hrx
    isplitl [HO]; · iexact HO
    isplitl [HtS]; · iexact HtS
    isplitr; · iapply (records_reached m K c (some (2, k₀))) $$ Hr
    isplitl [HtR]; · iexact HtR
    iapply (records_reached m K (fwd c k₀) (some (3, k₀))) $$ Hr
  iintro ⟨HC, HO⟩
  iapply Hk
  isplitl [HO]; · iexists W; iexact HO
  iexact HC

/-- The quantised block of the device `k + 1` steps ahead, sent to it. -/
theorem wp_send_d (k₀ : Fin 3) (n : ℕ) {n' : Dev nD} (hn : n' = fwd c k₀) {sS sR : DmaSem sig} (hsS : sS = dsem 0 k₀) (hsR : sR = dsem 1 k₀)
    (hO : Owe c (n + 1) = Owe c n + tallyAt (kcell (fwd c k₀) (some (1, k₀))) () ND)
    {src : Memref sig .tc .vmem S1024x2048 .fp8e4m3} (hsl : src = qSlot (fwd c k₀))
    {hsc : (vSlot k₀ : Memref sig (Dev.tc n' : Thread nD τ).2.kind .vmem S1024x2048 .fp8e4m3).view.ref.isScScratch = false}
    {hsrc : src.view.WordExact} {hdst : (vSlot k₀).view.WordExact}
    {hsem : (DmaTarget.remote (p := .tc) (Dev.tc n' : Thread nD τ) (vSlot k₀ : Memref sig (Dev.tc n' : Thread nD τ).2.kind .vmem S1024x2048 .fp8e4m3) (.dma sS) hsc).Typed .vmem (.dma sR)}
    {k : PUnit → Prog (TpuEff nD τ sig (Elt F) Λ₀ .tc) α} :
    iprop(records m K ∗ owesX c (n + 1) ∗ qPts c (fwd c k₀) (Q m c) ∗ (∃ f, vPts (fwd c k₀) k₀ f)
        ∗ dutyTok ER (kcell c (some (0, k₀))) 0 0 ∗ dutyTok ER (kcell (fwd c k₀) (some (1, k₀))) 0 0)
      ⊢ iprop(((owesX c n ∗ cred (tallyAt (kcell c (some (0, k₀))) () ND)) -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma src (.remote (Dev.tc n' : Thread nD τ) (vSlot k₀) (.dma sS) hsc) (.dma sR) hsrc hdst hsem) k) Ψ) := by
  subst hn hsS hsR hsl
  unfold owesX qPts vPts
  iintro ⟨#Hr, ⟨%W, HO⟩, Hq, ⟨%fd, Hv⟩, HtS, HtR⟩ Hk
  iapply (Rounds.wp_send_pointsTo 𝒱₀ ER (ringRd m) (c : Thread nD τ) none (κ₁ := K (c, some (0, k₀))) (κ₂ := K (fwd c k₀, some (1, k₀)))
    (r₁ := 0) (r₂ := 0) (d₁ := 0) (d₂ := 0) (fd := fd)
    (mem_duties_some m c 0 k₀) (mem_duties_some m (fwd c k₀) 1 k₀)
    () () ND rfl (amount_kcell m c (some (0, k₀)) 0) (amount_kcell m (fwd c k₀) (some (1, k₀)) 0) (Owe c n) hO (W := W)
    (Entails.of_eq (payload_kcell m c (some (0, k₀)) 0).symm)
    ((Entails.of_eq (pointsTo_congr fun i hi => by
      have h := land_v m (fwd c k₀) k₀ fd i hi
      rw [bwd_fwd] at h
      exact h)).trans (Entails.of_eq (payload_kcell m (fwd c k₀) (some (1, k₀)) 0).symm))) $$ [HO Hq Hv HtS HtR]
  · isplitr; · iapply (records_inv m K c (some (0, k₀))) $$ Hr
    isplitr; · iapply (records_inv m K (fwd c k₀) (some (1, k₀))) $$ Hr
    isplitl [Hq]; · iexact Hq
    isplitl [Hv]; · iexact Hv
    isplitl [HO]; · iexact HO
    isplitl [HtS]; · iexact HtS
    isplitr; · iapply (records_reached m K c (some (0, k₀))) $$ Hr
    isplitl [HtR]; · iexact HtR
    iapply (records_reached m K (fwd c k₀) (some (1, k₀))) $$ Hr
  iintro ⟨HC, HO⟩
  iapply Hk
  isplitl [HO]; · iexists W; iexact HO
  iexact HC

end Steps

end Cert.KernelIdeal.Run

end
-- ==== Proof.KernelIdeal.BodyA.lean ====
/-
The first part of the kernel's program: the barrier and the first blocks of the product.
-/
module

public import proofs.«01_k».proof.Proof.KernelIdeal.Protocol

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × CK → ℕ) (c : Dev nD)

theorem hz2 : (![0, 0] : Fin 2 → Nat) = fun _ => 0 := funext fun a => by fin_cases a <;> rfl
theorem read_x : xM.view.readAt (Elt F) (Rect.unit (s := S1024x4096) ![0, 0] S1024x4096.size inb_S1024x4096_S1024x4096_0_0).toLoadRect (xstg m c) = xstg m c :=
  Memref.readAt_unit_zero (Elt F) cc0_stg0_0 hz2 _ _

/-- Part 1: the units to the first two devices. -/
theorem part1 (Kt : (Σ' (d0 : Dev nD) (v2 : BitVec 32) (v3 : Sems sig S_) (v30 : BitVec 32) (c4 : BitVec 32), BitVec 1) → sProp 𝕄) :
    iprop((records m K ∗ owesX c 9 ∗ dutyTok ER (kcell (fwd c 0) none) 0 0 ∗ (∃ f, rPts c (opp 0) f) ∗ (∃ f, vPts c (opp 0) f) ∗ dutyTok ER (kcell (fwd c 1) none) 0 1 ∗ (∃ f, rPts c (opp 1) f) ∗ (∃ f, vPts c (opp 1) f)) ∗ ((owesX c 7) -∗ ∀ (v2 v30 : BitVec 32) (v31 : BitVec 1), Kt ⟨c, v2, SemArray.scalar (sig.barrier 0 rfl), v30, 4#32, v31⟩))
      ⊢ wp frame (wpE (defs₀ (F := F)) 𝒱₀ (c : Thread nD τ) none) Set.univ (k0_part1 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 ) Kt := by
  simp only [k0_part1_eq_skeleton]; unfold k0_part1_skel
  simp only [semSignalWord, semWaitWord, Prog.lift, Prog.bind_op, Prog.bind_ret, Prog.pure_eq_ret, wp_deviceId]
  iintro ⟨⟨#Hr, HO, Ht0, HR0, HV0, Ht1, HR1, HV1⟩, Hk⟩
  iapply (wp_sig m K c 0 8 (dev1_eq c) (Owe_9 c) (by decide)) $$ [HO Ht0 HR0 HV0]
  · isplitr; · iexact Hr
    isplitl [HO]; · iexact HO
    isplitl [Ht0]; · iexact Ht0
    isplitl [HR0]; · iexact HR0
    iexact HV0
  iintro HO
  iapply (wp_sig m K c 1 7 (dev2_eq c) (Owe_8 c) (by decide)) $$ [HO Ht1 HR1 HV1]
  · isplitr; · iexact Hr
    isplitl [HO]; · iexact HO
    isplitl [Ht1]; · iexact Ht1
    isplitl [HR1]; · iexact HR1
    iexact HV1
  iintro HO
  rw [wp_ret]; imodintro
  iapply Hk $$ HO

/-- Part 2: the last unit, the wait at the barrier, the first two copies, and the left operand. -/
theorem part2 (f : Buf (Elt F) ((bSlot 0).view.loc (c : Thread nD τ))) (v30 : BitVec 32) (v31 : BitVec 1) (Kt : FVec F S1024x4096 .bf16 → sProp 𝕄) :
    iprop((records m K ∗ owesX c 7 ∗ dutyTok ER (kcell (fwd c 2) none) 0 2 ∗ (∃ f, rPts c (opp 2) f) ∗ (∃ f, vPts c (opp 2) f) ∗ cred (tallyAt (kcell c none) () 3) ∗ levAts L lv ∗ atPos ER (kcell c none) 0 ∅ 0 ∗ wPts m c 0 ∗ wPts m c 1 ∗ bPts c 0 f ∗ bPts c 1 f ∗ semVal ((c : Thread nD τ), SemLoc.dma (wsS 0)) 0 ∗ semVal ((c : Thread nD τ), SemLoc.dma (wsS 1)) 0 ∗ (xM.view.loc (c : Thread nD τ) ↦{fullShare} xstg m c)) ∗ ((owesX c 6 ∗ (barPay c 0 ∗ barPay c 1 ∗ barPay c 2) ∗ semVal (kcell c none) 0 ∗ WFl m c 0 0 ∗ WFl m c 1 1 ∗ (xM.view.loc (c : Thread nD τ) ↦{fullShare} xstg m c)) -∗ Kt (X m c)))
      ⊢ wp frame (wpE (defs₀ (F := F)) 𝒱₀ (c : Thread nD τ) none) Set.univ (k0_part2 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c (SemArray.scalar (sig.barrier 0 rfl)) v30 4#32 v31) Kt := by
  simp only [k0_part2_eq_skeleton]; unfold k0_part2_skel
  simp only [semSignalWord, semWaitWord, Prog.lift, Prog.bind_op, Prog.bind_ret, Prog.pure_eq_ret, wp_deviceId]
  iintro ⟨⟨#Hr, HO, Ht, HR, HV, Hc, #Hlev, Hat, Hw0, Hw1, Hb0, Hb1, Hs0, Hs1, Hx⟩, Hk⟩
  iapply (wp_sig m K c 2 6 (dev3_eq c) (Owe_7 c) (by decide)) $$ [HO Ht HR HV]
  · isplitr; · iexact Hr
    isplitl [HO]; · iexact HO
    isplitl [Ht]; · iexact Ht
    isplitl [HR]; · iexact HR
    iexact HV
  iintro HO
  iapply (wp_bar m K c (by decide)) $$ [Hc HO Hat]
  · isplitr; · iexact Hr
    isplitl [Hc]; · iexact Hc
    isplitl [HO]; · iexact HO
    isplitr; · iexact Hlev
    iexact Hat
  iintro ⟨HO, Hp, Hz⟩
  iapply (wp_w_start m c 0 0 f) $$ [Hw0 Hb0 Hs0]
  · isplitl [Hw0]; · iexact Hw0
    isplitl [Hb0]; · iexact Hb0
    iexact Hs0
  iintro HF0
  iapply (wp_load 𝒱₀ (c : Thread nD τ) none Set.univ (m := xM) (Finset.subset_univ _)) $$ Hx; iintro Hx
  iapply (wp_w_start m c 1 1 f) $$ [Hw1 Hb1 Hs1]
  · isplitl [Hw1]; · iexact Hw1
    isplitl [Hb1]; · iexact Hb1
    iexact Hs1
  iintro HF1
  rw [wp_ret]; imodintro
  rw [read_x, show k0_pay1 (xstg m c) = X m c from rfl]
  iapply Hk
  isplitl [HO]; · iexact HO
  isplitl [Hp]; · iexact Hp
  isplitl [Hz]; · iexact Hz
  isplitl [HF0]; · iexact HF0
  isplitl [HF1]; · iexact HF1
  iexact Hx

/-- Part 3: blocks 0 and 1 of the product. -/
theorem part3 (Kt : (Σ' (v71 : F .f32), FVec F S1024x1024 .f32) → sProp 𝕄) :
    iprop((levAts L lv ∗ owesX c 6 ∗ WFl m c 0 0 ∗ WFl m c 1 1 ∗ wPts m c 2 ∗ yPts m c ∅) ∗ ((owesX c 6 ∗ bPts c 1 (bC m c 1) ∗ semVal ((c : Thread nD τ), SemLoc.dma (wsS 1)) 0 ∗ WFl m c 0 2 ∗ wPts m c 0 ∗ wPts m c 1 ∗ yPts m c {1, 0}) -∗ Kt ⟨am1 m c, k0_pay5 (X m c) (W m c 1)⟩))
      ⊢ wp frame (wpE (defs₀ (F := F)) 𝒱₀ (c : Thread nD τ) none) Set.univ (k0_part3 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 (X m c)) Kt := by
  simp only [k0_part3_eq_skeleton]; unfold k0_part3_skel
  simp only [semSignalWord, semWaitWord, Prog.lift, Prog.bind_op, Prog.bind_ret, Prog.pure_eq_ret, wp_deviceId]
  iintro ⟨⟨#Hlev, HO, HF0, HF1, Hw2, Hy⟩, Hk⟩
  iapply (wp_w_wait m c 0 0 rfl) $$ [HF0 HO]
  · isplitl [HF0]; · iexact HF0
    isplitl [HO]; · iexact HO
    iexact Hlev
  iintro ⟨Hb0, Hw0, Hs0, HO⟩
  iapply (wp_load_b m c 0 0) $$ Hb0; iintro Hb0
  iapply (wp_peek_y m c ∅) $$ Hy; iintro %v Hy
  iapply (wp_store_y m c ∅ 0 rfl) $$ Hy; iintro Hy
  iapply (wp_w_start m c 0 2 _) $$ [Hw2 Hb0 Hs0]
  · isplitl [Hw2]; · iexact Hw2
    isplitl [Hb0]; · iexact Hb0
    iexact Hs0
  iintro HF0
  iapply (wp_w_wait m c 1 1 rfl) $$ [HF1 HO]
  · isplitl [HF1]; · iexact HF1
    isplitl [HO]; · iexact HO
    iexact Hlev
  iintro ⟨Hb1, Hw1, Hs1, HO⟩
  iapply (wp_load_b m c 1 1) $$ Hb1; iintro Hb1
  iapply (wp_peek_y m c _) $$ Hy; iintro %v' Hy
  iapply (wp_store_y m c _ 1 rfl) $$ Hy; iintro Hy
  rw [wp_ret]; imodintro
  rw [show k0_pay4 (X m c) (W m c 0) = am1 m c from rfl]
  iapply Hk
  isplitl [HO]; · iexact HO
  isplitl [Hb1]; · iexact Hb1
  isplitl [Hs1]; · iexact Hs1
  isplitl [HF0]; · iexact HF0
  isplitl [Hw0]; · iexact Hw0
  isplitl [Hw1]; · iexact Hw1
  iexact Hy

/-- Part 4: block 2. -/
theorem part4 (Kt : F .f32 → sProp 𝕄) :
    iprop((levAts L lv ∗ owesX c 6 ∗ WFl m c 0 2 ∗ bPts c 1 (bC m c 1) ∗ semVal ((c : Thread nD τ), SemLoc.dma (wsS 1)) 0 ∗ wPts m c 3 ∗ yPts m c {1, 0}) ∗ ((owesX c 6 ∗ WFl m c 1 3 ∗ bPts c 0 (bC m c 2) ∗ semVal ((c : Thread nD τ), SemLoc.dma (wsS 0)) 0 ∗ wPts m c 2 ∗ yPts m c {2, 1, 0}) -∗ Kt (am3 m c)))
      ⊢ wp frame (wpE (defs₀ (F := F)) 𝒱₀ (c : Thread nD τ) none) Set.univ (k0_part4 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 (X m c) (am1 m c) (k0_pay5 (X m c) (W m c 1))) Kt := by
  simp only [k0_part4_eq_skeleton]; unfold k0_part4_skel
  simp only [semSignalWord, semWaitWord, Prog.lift, Prog.bind_op, Prog.bind_ret, Prog.pure_eq_ret, wp_deviceId]
  iintro ⟨⟨#Hlev, HO, HF0, Hb1, Hs1, Hw3, Hy⟩, Hk⟩
  iapply (wp_w_start m c 1 3 _) $$ [Hw3 Hb1 Hs1]
  · isplitl [Hw3]; · iexact Hw3
    isplitl [Hb1]; · iexact Hb1
    iexact Hs1
  iintro HF1
  iapply (wp_w_wait m c 0 2 rfl) $$ [HF0 HO]
  · isplitl [HF0]; · iexact HF0
    isplitl [HO]; · iexact HO
    iexact Hlev
  iintro ⟨Hb0, Hw2, Hs0, HO⟩
  iapply (wp_load_b m c 0 2) $$ Hb0; iintro Hb0
  iapply (wp_peek_y m c _) $$ Hy; iintro %v2 Hy
  iapply (wp_store_y m c _ 2 rfl) $$ Hy; iintro Hy
  rw [wp_ret]; imodintro
  rw [show k0_pay9 (X m c) (am1 m c) (k0_pay5 (X m c) (W m c 1)) (W m c 2) = am3 m c from rfl]
  iapply Hk
  isplitl [HO]; · iexact HO
  isplitl [HF1]; · iexact HF1
  isplitl [Hb0]; · iexact Hb0
  isplitl [Hs0]; · iexact Hs0
  isplitl [Hw2]; · iexact Hw2
  iexact Hy

/-- Part 5: block 3. -/
theorem part5 (Kt : F .f32 → sProp 𝕄) :
    iprop((levAts L lv ∗ owesX c 6 ∗ WFl m c 1 3 ∗ bPts c 0 (bC m c 2) ∗ semVal ((c : Thread nD τ), SemLoc.dma (wsS 0)) 0 ∗ wPts m c 4 ∗ wPts m c 5 ∗ yPts m c {2, 1, 0}) ∗ ((owesX c 6 ∗ WFl m c 1 5 ∗ bPts c 0 (bC m c 4) ∗ semVal ((c : Thread nD τ), SemLoc.dma (wsS 0)) 0 ∗ wPts m c 3 ∗ wPts m c 4 ∗ yPts m c {3, 2, 1, 0}) -∗ Kt (am4 m c)))
      ⊢ wp frame (wpE (defs₀ (F := F)) 𝒱₀ (c : Thread nD τ) none) Set.univ (k0_part5 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 (X m c) (am3 m c)) Kt := by
  simp only [k0_part5_eq_skeleton]; unfold k0_part5_skel
  simp only [semSignalWord, semWaitWord, Prog.lift, Prog.bind_op, Prog.bind_ret, Prog.pure_eq_ret, wp_deviceId]
  iintro ⟨⟨#Hlev, HO, HF1, Hb0, Hs0, Hw4, Hw5, Hy⟩, Hk⟩
  iapply (wp_w_start m c 0 4 _) $$ [Hw4 Hb0 Hs0]
  · isplitl [Hw4]; · iexact Hw4
    isplitl [Hb0]; · iexact Hb0
    iexact Hs0
  iintro HF0
  iapply (wp_w_wait m c 1 3 rfl) $$ [HF1 HO]
  · isplitl [HF1]; · iexact HF1
    isplitl [HO]; · iexact HO
    iexact Hlev
  iintro ⟨Hb1, Hw3, Hs1, HO⟩
  iapply (wp_load_b m c 1 3) $$ Hb1; iintro Hb1
  iapply (wp_peek_y m c _) $$ Hy; iintro %v3 Hy
  iapply (wp_store_y m c _ 3 rfl) $$ Hy; iintro Hy
  iapply (wp_w_start m c 1 5 _) $$ [Hw5 Hb1 Hs1]
  · isplitl [Hw5]; · iexact Hw5
    isplitl [Hb1]; · iexact Hb1
    iexact Hs1
  iintro HF1
  iapply (wp_w_wait m c 0 4 rfl) $$ [HF0 HO]
  · isplitl [HF0]; · iexact HF0
    isplitl [HO]; · iexact HO
    iexact Hlev
  iintro ⟨Hb0, Hw4, Hs0, HO⟩
  rw [wp_ret]; imodintro
  rw [show k0_pay12 (X m c) (am3 m c) (W m c 3) = am4 m c from rfl]
  iapply Hk
  isplitl [HO]; · iexact HO
  isplitl [HF1]; · iexact HF1
  isplitl [Hb0]; · iexact Hb0
  isplitl [Hs0]; · iexact Hs0
  isplitl [Hw3]; · iexact Hw3
  isplitl [Hw4]; · iexact Hw4
  iexact Hy

/-- Part 6: blocks 4 and 5. -/
theorem part6 (Kt : (Σ' (v159 : F .f32), FVec F S1 .f32) → sProp 𝕄) :
    iprop((levAts L lv ∗ owesX c 6 ∗ WFl m c 1 5 ∗ bPts c 0 (bC m c 4) ∗ semVal ((c : Thread nD τ), SemLoc.dma (wsS 0)) 0 ∗ wPts m c 6 ∗ yPts m c {3, 2, 1, 0}) ∗ ((owesX c 6 ∗ WFl m c 0 6 ∗ bPts c 1 (bC m c 5) ∗ semVal ((c : Thread nD τ), SemLoc.dma (wsS 1)) 0 ∗ wPts m c 5 ∗ yPts m c {5, 4, 3, 2, 1, 0}) -∗ Kt ⟨am5 m c, k0_pay18 (X m c) (W m c 5)⟩))
      ⊢ wp frame (wpE (defs₀ (F := F)) 𝒱₀ (c : Thread nD τ) none) Set.univ (k0_part6 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 (X m c) (am4 m c)) Kt := by
  simp only [k0_part6_eq_skeleton]; unfold k0_part6_skel
  simp only [semSignalWord, semWaitWord, Prog.lift, Prog.bind_op, Prog.bind_ret, Prog.pure_eq_ret, wp_deviceId]
  iintro ⟨⟨#Hlev, HO, HF1, Hb0, Hs0, Hw6, Hy⟩, Hk⟩
  iapply (wp_load_b m c 0 4) $$ Hb0; iintro Hb0
  iapply (wp_peek_y m c _) $$ Hy; iintro %v4 Hy
  iapply (wp_store_y m c _ 4 rfl) $$ Hy; iintro Hy
  iapply (wp_w_start m c 0 6 _) $$ [Hw6 Hb0 Hs0]
  · isplitl [Hw6]; · iexact Hw6
    isplitl [Hb0]; · iexact Hb0
    iexact Hs0
  iintro HF0
  iapply (wp_w_wait m c 1 5 rfl) $$ [HF1 HO]
  · isplitl [HF1]; · iexact HF1
    isplitl [HO]; · iexact HO
    iexact Hlev
  iintro ⟨Hb1, Hw5, Hs1, HO⟩
  iapply (wp_load_b m c 1 5) $$ Hb1; iintro Hb1
  iapply (wp_peek_y m c _) $$ Hy; iintro %v5 Hy
  iapply (wp_store_y m c _ 5 rfl) $$ Hy; iintro Hy
  rw [wp_ret]; imodintro
  rw [show k0_pay15 (X m c) (am4 m c) (W m c 4) = am5 m c from rfl]
  iapply Hk
  isplitl [HO]; · iexact HO
  isplitl [HF0]; · iexact HF0
  isplitl [Hb1]; · iexact Hb1
  isplitl [Hs1]; · iexact Hs1
  isplitl [Hw5]; · iexact Hw5
  iexact Hy

/-- Part 7: block 6, and the last copy. -/
theorem part7 (Kt : F .f32 → sProp 𝕄) :
    iprop((levAts L lv ∗ owesX c 6 ∗ WFl m c 0 6 ∗ bPts c 1 (bC m c 5) ∗ semVal ((c : Thread nD τ), SemLoc.dma (wsS 1)) 0 ∗ wPts m c 7 ∗ yPts m c {5, 4, 3, 2, 1, 0}) ∗ ((owesX c 6 ∗ bPts c 0 (bC m c 6) ∗ semVal ((c : Thread nD τ), SemLoc.dma (wsS 0)) 0 ∗ wPts m c 6 ∗ bPts c 1 (bC m c 7) ∗ semVal ((c : Thread nD τ), SemLoc.dma (wsS 1)) 0 ∗ wPts m c 7 ∗ yPts m c {6, 5, 4, 3, 2, 1, 0}) -∗ Kt (am7 m c)))
      ⊢ wp frame (wpE (defs₀ (F := F)) 𝒱₀ (c : Thread nD τ) none) Set.univ (k0_part7 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 (X m c) (am5 m c) (k0_pay18 (X m c) (W m c 5))) Kt := by
  simp only [k0_part7_eq_skeleton]; unfold k0_part7_skel
  simp only [semSignalWord, semWaitWord, Prog.lift, Prog.bind_op, Prog.bind_ret, Prog.pure_eq_ret, wp_deviceId]
  iintro ⟨⟨#Hlev, HO, HF0, Hb1, Hs1, Hw7, Hy⟩, Hk⟩
  iapply (wp_w_start m c 1 7 _) $$ [Hw7 Hb1 Hs1]
  · isplitl [Hw7]; · iexact Hw7
    isplitl [Hb1]; · iexact Hb1
    iexact Hs1
  iintro HF1
  iapply (wp_w_wait m c 0 6 rfl) $$ [HF0 HO]
  · isplitl [HF0]; · iexact HF0
    isplitl [HO]; · iexact HO
    iexact Hlev
  iintro ⟨Hb0, Hw6, Hs0, HO⟩
  iapply (wp_load_b m c 0 6) $$ Hb0; iintro Hb0
  iapply (wp_peek_y m c _) $$ Hy; iintro %v6 Hy
  iapply (wp_store_y m c _ 6 rfl) $$ Hy; iintro Hy
  iapply (wp_w_wait m c 1 7 rfl) $$ [HF1 HO]
  · isplitl [HF1]; · iexact HF1
    isplitl [HO]; · iexact HO
    iexact Hlev
  iintro ⟨Hb1, Hw7, Hs1, HO⟩
  rw [wp_ret]; imodintro
  rw [show k0_pay21 (X m c) (am5 m c) (k0_pay18 (X m c) (W m c 5)) (W m c 6) = am7 m c from rfl]
  iapply Hk
  isplitl [HO]; · iexact HO
  isplitl [Hb0]; · iexact Hb0
  isplitl [Hs0]; · iexact Hs0
  isplitl [Hw6]; · iexact Hw6
  isplitl [Hb1]; · iexact Hb1
  isplitl [Hs1]; · iexact Hs1
  isplitl [Hw7]; · iexact Hw7
  iexact Hy

end Body

end Cert.KernelIdeal.Run

end
-- ==== Proof.KernelIdeal.Buffers.lean ====
/-
A whole buffer is its slots.
-/
module

public import proofs.«01_k».proof.Proof.KernelIdeal.Protocol

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Buffers
abbrev rKey (i : S3x8x128.Idx) : Fin 3 := i 0
abbrev vKey (i : S3x1024x2048.Idx) : Fin 3 := i 0
abbrev bKey (i : S2x4096x1024.Idx) : Fin 2 := i 0
theorem ring_all : ∀ c : Dev nD, (Finset.univ : Finset (Fin 4)) = [fwd c 0, fwd c 1, fwd c 2, c].toFinset := by decide
theorem ring_nodup : ∀ c : Dev nD, ([fwd c 0, fwd c 1, fwd c 2, c] : List (Fin 4)).Nodup := by decide
variable (c : Dev nD)

omit [FloatOps F] in
theorem r_slots (f : Buf (Elt F) ((c : Thread nD τ).loc cc0_scratch5)) :
    ((((c : Thread nD τ).loc cc0_scratch5) ↦{fullShare} f) : sProp 𝕄) = iprop(rPts c 0 f ∗ rPts c 1 f ∗ rPts c 2 f) := by
  rw [← key_cover rKey (fun k : Fin 3 => (rSlot k).view.set) mem_rSlot,
    pointsTo_biUnion Finset.univ _ (fun t _ t' _ h => key_disjoint rKey (fun k : Fin 3 => (rSlot k).view.set) mem_rSlot t t' h),
    bigSep_univ_eq_bigSepL [0, 1, 2] (by decide) (by decide)]
  rfl
omit [FloatOps F] in
theorem v_slots (f : Buf (Elt F) ((c : Thread nD τ).loc cc0_scratch2)) :
    ((((c : Thread nD τ).loc cc0_scratch2) ↦{fullShare} f) : sProp 𝕄) = iprop(vPts c 0 f ∗ vPts c 1 f ∗ vPts c 2 f) := by
  rw [← key_cover vKey (fun k : Fin 3 => (vSlot k).view.set) mem_vSlot,
    pointsTo_biUnion Finset.univ _ (fun t _ t' _ h => key_disjoint vKey (fun k : Fin 3 => (vSlot k).view.set) mem_vSlot t t' h),
    bigSep_univ_eq_bigSepL [0, 1, 2] (by decide) (by decide)]
  rfl
omit [FloatOps F] in
/-- The quantised blocks, that of the device itself last. -/
theorem q_slots (f : Buf (Elt F) ((c : Thread nD τ).loc cc0_scratch1)) :
    ((((c : Thread nD τ).loc cc0_scratch1) ↦{fullShare} f) : sProp 𝕄) = iprop(qPts c (fwd c 0) f ∗ qPts c (fwd c 1) f ∗ qPts c (fwd c 2) f ∗ qPts c c f) := by
  rw [← key_cover qKey (fun t : Fin 4 => (qSlot t).view.set) mem_qSlot,
    pointsTo_biUnion Finset.univ _ (fun t _ t' _ h => key_disjoint qKey (fun t : Fin 4 => (qSlot t).view.set) mem_qSlot t t' h),
    bigSep_univ_eq_bigSepL [fwd c 0, fwd c 1, fwd c 2, c] (ring_all c) (ring_nodup c)]
  rfl
omit [FloatOps F] in
theorem b_slots (f : Buf (Elt F) ((c : Thread nD τ).loc cc0_scratch3)) :
    ((((c : Thread nD τ).loc cc0_scratch3) ↦{fullShare} f) : sProp 𝕄) = iprop(bPts c 0 f ∗ bPts c 1 f) := by
  rw [← key_cover bKey (fun k : Fin 2 => (bSlot k).view.set) mem_bSlot,
    pointsTo_biUnion Finset.univ _ (fun t _ t' _ h => key_disjoint bKey (fun k : Fin 2 => (bSlot k).view.set) mem_bSlot t t' h),
    bigSep_univ_eq_bigSepL [0, 1] (by decide) (by decide)]
  rfl
omit [FloatOps F] in
/-- The two staging slots are the buffer again, whatever each holds. -/
theorem b_join (f g : Buf (Elt F) ((c : Thread nD τ).loc cc0_scratch3)) :
    (iprop(bPts c 0 f ∗ bPts c 1 g) : sProp 𝕄) ⊢ iprop(∃ h : Buf (Elt F) ((c : Thread nD τ).loc cc0_scratch3), (((c : Thread nD τ).loc cc0_scratch3) ↦{fullShare} h)) := by
  have h0 : (bPts c 0 f : sProp 𝕄) = bPts c 0 (fun i : S2x4096x1024.Idx => if bKey i = 0 then f i else g i) :=
    pointsTo_congr fun i hi => (if_pos ((mem_bSlot 0 i).mp hi)).symm
  have h1 : (bPts c 1 g : sProp 𝕄) = bPts c 1 (fun i : S2x4096x1024.Idx => if bKey i = 0 then f i else g i) :=
    pointsTo_congr fun i hi => (if_neg (by rw [show bKey i = 1 from (mem_bSlot 1 i).mp hi]; decide)).symm
  rw [h0, h1, ← b_slots]
  iintro H
  iexists _
  iexact H
/-- The right operand, in its eight blocks of columns. -/
theorem w_slots : ((((c : Thread nD τ).loc main_arg1) ↦{fullShare} m ((c : Thread nD τ).loc main_arg1)) : sProp 𝕄)
    = iprop(wPts m c 0 ∗ wPts m c 1 ∗ wPts m c 2 ∗ wPts m c 3 ∗ wPts m c 4 ∗ wPts m c 5 ∗ wPts m c 6 ∗ wPts m c 7) := by
  rw [← key_cover wKey (fun b : Fin 8 => (wSlab b).view.set) mem_wSlab,
    pointsTo_biUnion Finset.univ _ (fun t _ t' _ h => key_disjoint wKey (fun b : Fin 8 => (wSlab b).view.set) mem_wSlab t t' h),
    bigSep_univ_eq_bigSepL [0, 1, 2, 3, 4, 5, 6, 7] (by decide) (by decide)]
  rfl
omit [FloatOps F] in
theorem tx_set : (txM : Memref sig .tc .vmem S8x128 .f32).view.set = Finset.univ := View.set_whole _
omit [FloatOps F] in
/-- The buffer of the sent maximum, in three shares. -/
theorem tx_shares (f : Buf (Elt F) ((c : Thread nD τ).loc cc0_scratch4)) :
    ((((c : Thread nD τ).loc cc0_scratch4) ↦{fullShare} f) : sProp 𝕄) = iprop(txPts c (tsh 0) f ∗ txPts c (tsh 1) f ∗ txPts c (tsh 2) f) := by
  unfold txPts
  rw [tx_set, Transfers.pointsTo_deal (Finset.univ : Finset (Fin 3)) ⟨0, Finset.mem_univ _⟩ fullShare,
    bigSep_univ_eq_bigSepL [0, 1, 2] (by decide) (by decide)]
  rfl

end Buffers

end Cert.KernelIdeal.Run

end
-- ==== Proof.KernelIdeal.BodyB.lean ====
/-
The second part of the kernel's program: the maxima exchanged, the blocks quantised and exchanged, the result written.
-/
module

public import proofs.«01_k».proof.Proof.KernelIdeal.BodyA
public import proofs.«01_k».proof.Proof.KernelIdeal.Buffers

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × CK → ℕ) (c : Dev nD)

theorem off1_eq_0 : ∀ c : Dev nD, k0_off1 c 1#32 = ![(fwd c 0).val, 0, 0] := by decide +kernel
theorem off1_eq_1 : ∀ c : Dev nD, k0_off1 c 2#32 = ![(fwd c 1).val, 0, 0] := by decide +kernel
theorem off1_eq_2 : ∀ c : Dev nD, k0_off1 c 3#32 = ![(fwd c 2).val, 0, 0] := by decide +kernel
theorem off4_eq_0 : ∀ c : Dev nD, k0_off4 c 1#32 = ![1024 * (bwd c 0).val, 0] := by decide +kernel
theorem off4_eq_1 : ∀ c : Dev nD, k0_off4 c 2#32 = ![1024 * (bwd c 1).val, 0] := by decide +kernel
theorem off4_eq_2 : ∀ c : Dev nD, k0_off4 c 3#32 = ![1024 * (bwd c 2).val, 0] := by decide +kernel
theorem q_slice {off : Fin 3 → ℕ} {t : Fin 4} (h : off = ![t.val, 0, 0]) (inb : ∀ a, off a + S1x1024x2048.size a ≤ S4x1024x2048.size a) :
    (qM.slice (Rect.unit (s := S4x1024x2048) off S1x1024x2048.size inb) (fun _ => rfl)).squeeze S1024x2048 squeezes_S1x1024x2048_S1024x2048 = qSlot t := by
  subst h; rfl
theorem q_credit (k : Fin 3) (off : Fin 3 → ℕ) (inb : ∀ a, off a + S1x1024x2048.size a ≤ S4x1024x2048.size a) :
    ((qM.slice (Rect.unit (s := S4x1024x2048) off S1x1024x2048.size inb) (fun _ => rfl)).squeeze S1024x2048 squeezes_S1x1024x2048_S1024x2048).view.dmaCredit = amt (some (0, k)) := rfl
abbrev tR : Rect S8x128 := Rect.unit (s := S8x128) ![0, 0] S8x128.size inb_S8x128_S8x128_0_0
omit [FloatOps F] in
theorem write_tx (f w : FVec F S8x128 .f32) : (txM.access tR).write (Elt F) f w Finset.univ = w :=
  Memref.write_access_unit_zero_univ (Elt F) cc0_scratch4 hz2 _ f w

/-- Part 8: block 7, the maximum, and its first transfer. -/
theorem part8 (ftx : FVec F S8x128 .f32) (v2 : BitVec 32) (Kt : (Σ' (v220 : F .f32), BitVec 32) → sProp 𝕄) :
    iprop((records m K ∗ owesX c 6 ∗ bPts c 1 (bC m c 7) ∗ yPts m c {6, 5, 4, 3, 2, 1, 0} ∗ (txM.view.loc (c : Thread nD τ) ↦{fullShare} ftx) ∗ (∃ f, rPts (fwd c 0) 0 f) ∗ dutyTok ER (kcell c (some (2, 0))) 0 0 ∗ dutyTok ER (kcell (fwd c 0) (some (3, 0))) 0 0) ∗ (∀ (v235 : BitVec 32), (owesX c 5 ∗ bPts c 1 (bC m c 7) ∗ (yM.view.loc (c : Thread nD τ) ↦{fullShare} Y m c) ∗ txPts c (tsh 1) (tx m c) ∗ txPts c (tsh 2) (tx m c) ∗ cred (tallyAt (kcell c (some (2, 0))) () (amt (some (2, 0))))) -∗ Kt ⟨amL m c, v235⟩))
      ⊢ wp frame (wpE (defs₀ (F := F)) 𝒱₀ (c : Thread nD τ) none) Set.univ (k0_part8 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c v2 (X m c) (am7 m c)) Kt := by
  simp only [k0_part8_eq_skeleton]; unfold k0_part8_skel
  simp only [semSignalWord, semWaitWord, Prog.lift, Prog.bind_op, Prog.bind_ret, Prog.pure_eq_ret, wp_deviceId]
  iintro ⟨⟨#Hr, HO, Hb1, Hy, Htx, HR0, Hts0, Htr0⟩, Hk⟩
  iapply (wp_load_b m c 1 7) $$ Hb1; iintro Hb1
  iapply (wp_peek_y m c _) $$ Hy; iintro %v7 Hy
  iapply (wp_store_y m c _ 7 rfl) $$ Hy; iintro Hy
  ihave Hy := (yPts_all m c _ (by decide)) $$ Hy
  iapply (wp_load 𝒱₀ (c : Thread nD τ) none Set.univ (m := txM) (Finset.subset_univ _)) $$ Htx; iintro Htx
  iapply (wp_store 𝒱₀ (c : Thread nD τ) none Set.univ (m := txM) (r := tR) (Mk := Finset.univ) (Finset.subset_univ _)) $$ Htx; iintro Htx
  rw [write_tx, show k0_pay25 (X m c) (am7 m c) (W m c 7) = tx m c from rfl]
  ihave Htx := (show _ ⊢ _ from Entails.of_eq (tx_shares c (tx m c))) $$ Htx
  icases Htx with ⟨Htx0, Htx1, Htx2⟩
  iapply (wp_send_a m K c 0 5 (dev4_eq c) (asS_eq 0) (arS_eq 0) (Owe_6 c)) $$ [HO Htx0 HR0 Hts0 Htr0]
  · isplitr; · iexact Hr
    isplitl [HO]; · iexact HO
    isplitl [Htx0]; · iexact Htx0
    isplitl [HR0]; · iexact HR0
    isplitl [Hts0]; · iexact Hts0
    iexact Htr0
  iintro ⟨HO, Hc20⟩
  rw [wp_ret]; imodintro
  rw [show k0_pay24 (X m c) (am7 m c) (W m c 7) = amL m c from rfl]
  iapply Hk
  isplitl [HO]; · iexact HO
  isplitl [Hb1]; · iexact Hb1
  isplitl [Hy]; · iexact Hy
  isplitl [Htx1]; · iexact Htx1
  isplitl [Htx2]; · iexact Htx2
  iexact Hc20

/-- Part 9: the second transfer of the maximum. -/
theorem part9 (v2 : BitVec 32) (Kt : (Σ' (v254 : BitVec 32), BitVec 32) → sProp 𝕄) :
    iprop((records m K ∗ owesX c 5 ∗ txPts c (tsh 1) (tx m c) ∗ (∃ f, rPts (fwd c 1) 1 f) ∗ dutyTok ER (kcell c (some (2, 1))) 0 0 ∗ dutyTok ER (kcell (fwd c 1) (some (3, 1))) 0 0) ∗ (∀ (v254 v273 : BitVec 32), (owesX c 4 ∗ cred (tallyAt (kcell c (some (2, 1))) () (amt (some (2, 1))))) -∗ Kt ⟨v254, v273⟩))
      ⊢ wp frame (wpE (defs₀ (F := F)) 𝒱₀ (c : Thread nD τ) none) Set.univ (k0_part9 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c v2) Kt := by
  simp only [k0_part9_eq_skeleton]; unfold k0_part9_skel
  simp only [semSignalWord, semWaitWord, Prog.lift, Prog.bind_op, Prog.bind_ret, Prog.pure_eq_ret, wp_deviceId]
  iintro ⟨⟨#Hr, HO, Htx1, HR1, Hts1, Htr1⟩, Hk⟩
  iapply (wp_send_a m K c 1 4 (dev5_eq c) (asS_eq 1) (arS_eq 1) (Owe_5 c)) $$ [HO Htx1 HR1 Hts1 Htr1]
  · isplitr; · iexact Hr
    isplitl [HO]; · iexact HO
    isplitl [Htx1]; · iexact Htx1
    isplitl [HR1]; · iexact HR1
    isplitl [Hts1]; · iexact Hts1
    iexact Htr1
  iintro ⟨HO, Hc21⟩
  rw [wp_ret]; imodintro
  iapply Hk
  isplitl [HO]; · iexact HO
  iexact Hc21

/-- Part 10: the third transfer of the maximum, and the first four waits. -/
theorem part10 (v235 v254 : BitVec 32) (Kt : PUnit → sProp 𝕄) :
    iprop((records m K ∗ levAts L lv ∗ owesX c 4 ∗ txPts c (tsh 2) (tx m c) ∗ (∃ f, rPts (fwd c 2) 2 f) ∗ dutyTok ER (kcell c (some (2, 2))) 0 0 ∗ dutyTok ER (kcell (fwd c 2) (some (3, 2))) 0 0 ∗ cred (tallyAt (kcell c (some (2, 0))) () (amt (some (2, 0)))) ∗ atPos ER (kcell c (some (2, 0))) 0 ∅ 0 ∗ cred (tallyAt (kcell c (some (3, 0))) () (amt (some (3, 0)))) ∗ atPos ER (kcell c (some (3, 0))) 0 ∅ 0 ∗ cred (tallyAt (kcell c (some (2, 1))) () (amt (some (2, 1)))) ∗ atPos ER (kcell c (some (2, 1))) 0 ∅ 0 ∗ cred (tallyAt (kcell c (some (3, 1))) () (amt (some (3, 1)))) ∗ atPos ER (kcell c (some (3, 1))) 0 ∅ 0) ∗ ((owesX c 3 ∗ cred (tallyAt (kcell c (some (2, 2))) () (amt (some (2, 2)))) ∗ xferPay m c 2 0 ∗ semVal (kcell c (some (2, 0))) 0 ∗ xferPay m c 3 0 ∗ semVal (kcell c (some (3, 0))) 0 ∗ xferPay m c 2 1 ∗ semVal (kcell c (some (2, 1))) 0 ∗ xferPay m c 3 1 ∗ semVal (kcell c (some (3, 1))) 0) -∗ Kt ⟨⟩))
      ⊢ wp frame (wpE (defs₀ (F := F)) 𝒱₀ (c : Thread nD τ) none) Set.univ (k0_part10 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c v235 v254) Kt := by
  simp only [k0_part10_eq_skeleton]; unfold k0_part10_skel
  simp only [semSignalWord, semWaitWord, Prog.lift, Prog.bind_op, Prog.bind_ret, Prog.pure_eq_ret, wp_deviceId]
  iintro ⟨⟨#Hr, #Hlev, HO, Htx2, HR2, Hts2, Htr2, Hc20, Ha20, Hc30, Ha30, Hc21, Ha21, Hc31, Ha31⟩, Hk⟩
  iapply (wp_send_a m K c 2 3 (dev6_eq c) (asS_eq 2) (arS_eq 2) (Owe_4 c)) $$ [HO Htx2 HR2 Hts2 Htr2]
  · isplitr; · iexact Hr
    isplitl [HO]; · iexact HO
    isplitl [Htx2]; · iexact Htx2
    isplitl [HR2]; · iexact HR2
    isplitl [Hts2]; · iexact Hts2
    iexact Htr2
  iintro ⟨HO, Hc22⟩
  iapply (wp_xfer m K c 2 0 3 (asS_eq 0) (lv_as 0) (show (txM : Memref sig .tc .vmem S8x128 .f32).view.dmaCredit = _ from rfl)) $$ [Hc20 HO Ha20]
  · isplitr; · iexact Hr
    isplitl [Hc20]; · iexact Hc20
    isplitl [HO]; · iexact HO
    isplitr; · iexact Hlev
    iexact Ha20
  iintro ⟨HO, Hp20, Hz20⟩
  iapply (wp_xfer m K c 3 0 3 (arS_eq 0) (lv_ar 0) (rSlot_credit 0)) $$ [Hc30 HO Ha30]
  · isplitr; · iexact Hr
    isplitl [Hc30]; · iexact Hc30
    isplitl [HO]; · iexact HO
    isplitr; · iexact Hlev
    iexact Ha30
  iintro ⟨HO, Hp30, Hz30⟩
  iapply (wp_xfer m K c 2 1 3 (asS_eq 1) (lv_as 1) (show (txM : Memref sig .tc .vmem S8x128 .f32).view.dmaCredit = _ from rfl)) $$ [Hc21 HO Ha21]
  · isplitr; · iexact Hr
    isplitl [Hc21]; · iexact Hc21
    isplitl [HO]; · iexact HO
    isplitr; · iexact Hlev
    iexact Ha21
  iintro ⟨HO, Hp21, Hz21⟩
  iapply (wp_xfer m K c 3 1 3 (arS_eq 1) (lv_ar 1) (rSlot_credit 1)) $$ [Hc31 HO Ha31]
  · isplitr; · iexact Hr
    isplitl [Hc31]; · iexact Hc31
    isplitl [HO]; · iexact HO
    isplitr; · iexact Hlev
    iexact Ha31
  iintro ⟨HO, Hp31, Hz31⟩
  rw [wp_ret]; imodintro
  iapply Hk
  isplitl [HO]; · iexact HO
  isplitl [Hc22]; · iexact Hc22
  isplitl [Hp20]; · iexact Hp20
  isplitl [Hz20]; · iexact Hz20
  isplitl [Hp30]; · iexact Hp30
  isplitl [Hz30]; · iexact Hz30
  isplitl [Hp21]; · iexact Hp21
  isplitl [Hz21]; · iexact Hz21
  isplitl [Hp31]; · iexact Hp31
  iexact Hz31

/-- Part 11: the last two waits for maxima, and the overall maximum. -/
theorem part11 (v273 : BitVec 32) (Kt : (Σ' (v333 : F .f32), F .f32) → sProp 𝕄) :
    iprop((records m K ∗ levAts L lv ∗ owesX c 3 ∗ cred (tallyAt (kcell c (some (2, 2))) () (amt (some (2, 2)))) ∗ atPos ER (kcell c (some (2, 2))) 0 ∅ 0 ∗ cred (tallyAt (kcell c (some (3, 2))) () (amt (some (3, 2)))) ∗ atPos ER (kcell c (some (3, 2))) 0 ∅ 0 ∗ xferPay m c 3 0 ∗ xferPay m c 3 1) ∗ ((owesX c 3 ∗ xferPay m c 2 2 ∗ semVal (kcell c (some (2, 2))) 0 ∗ semVal (kcell c (some (3, 2))) 0 ∗ (rxM.view.loc (c : Thread nD τ) ↦{fullShare} rx m c)) -∗ Kt ⟨inv m c, scl m c⟩))
      ⊢ wp frame (wpE (defs₀ (F := F)) 𝒱₀ (c : Thread nD τ) none) Set.univ (k0_part11 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 (amL m c) v273) Kt := by
  simp only [k0_part11_eq_skeleton]; unfold k0_part11_skel
  simp only [semSignalWord, semWaitWord, Prog.lift, Prog.bind_op, Prog.bind_ret, Prog.pure_eq_ret, wp_deviceId]
  iintro ⟨⟨#Hr, #Hlev, HO, Hc22, Ha22, Hc32, Ha32, Hp30, Hp31⟩, Hk⟩
  iapply (wp_xfer m K c 2 2 3 (asS_eq 2) (lv_as 2) (show (txM : Memref sig .tc .vmem S8x128 .f32).view.dmaCredit = _ from rfl)) $$ [Hc22 HO Ha22]
  · isplitr; · iexact Hr
    isplitl [Hc22]; · iexact Hc22
    isplitl [HO]; · iexact HO
    isplitr; · iexact Hlev
    iexact Ha22
  iintro ⟨HO, Hp22, Hz22⟩
  iapply (wp_xfer m K c 3 2 3 (arS_eq 2) (lv_ar 2) (rSlot_credit 2)) $$ [Hc32 HO Ha32]
  · isplitr; · iexact Hr
    isplitl [Hc32]; · iexact Hc32
    isplitl [HO]; · iexact HO
    isplitr; · iexact Hlev
    iexact Ha32
  iintro ⟨HO, Hp32, Hz32⟩
  ihave Hrx := (show iprop(xferPay m c 3 0 ∗ xferPay m c 3 1 ∗ xferPay m c 3 2) ⊢ (rxM.view.loc (c : Thread nD τ) ↦{fullShare} rx m c) from Entails.of_eq (r_slots c (rx m c)).symm) $$ [Hp30 Hp31 Hp32]
  · isplitl [Hp30]; · iexact Hp30
    isplitl [Hp31]; · iexact Hp31
    iexact Hp32
  iapply (wp_load_r m c 0) $$ Hrx; iintro Hrx
  iapply (wp_load_r m c 1) $$ Hrx; iintro Hrx
  iapply (wp_load_r m c 2) $$ Hrx; iintro Hrx
  rw [wp_ret]; imodintro
  rw [show k0_pay27 (amL m c) (rxv m c 0) (rxv m c 1) (rxv m c 2) = inv m c from rfl, show k0_pay28 (amL m c) (rxv m c 0) (rxv m c 1) (rxv m c 2) = scl m c from rfl]
  iapply Hk
  isplitl [HO]; · iexact HO
  isplitl [Hp22]; · iexact Hp22
  isplitl [Hz22]; · iexact Hz22
  isplitl [Hz32]; · iexact Hz32
  iexact Hrx

/-- Part 12: three of the quantised blocks. -/
theorem part12 (Kt : Vec F S1024x2048 .f32 → sProp 𝕄) :
    iprop(((yM.view.loc (c : Thread nD τ) ↦{fullShare} Y m c) ∗ qbPts m c ∅) ∗ (((yM.view.loc (c : Thread nD τ) ↦{fullShare} Y m c) ∗ qbPts m c {2, 1, 0}) -∗ Kt (Ysl m c 3)))
      ⊢ wp frame (wpE (defs₀ (F := F)) 𝒱₀ (c : Thread nD τ) none) Set.univ (k0_part12 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 (inv m c)) Kt := by
  simp only [k0_part12_eq_skeleton]; unfold k0_part12_skel
  simp only [semSignalWord, semWaitWord, Prog.lift, Prog.bind_op, Prog.bind_ret, Prog.pure_eq_ret, wp_deviceId]
  iintro ⟨⟨Hy, Hq⟩, Hk⟩
  iapply (wp_load_y m c 0) $$ Hy; iintro Hy
  iapply (wp_peek_q m c _) $$ Hq; iintro %v0 Hq
  iapply (wp_store_q m c _ 0 rfl) $$ Hq; iintro Hq
  iapply (wp_load_y m c 1) $$ Hy; iintro Hy
  iapply (wp_peek_q m c _) $$ Hq; iintro %v1 Hq
  iapply (wp_store_q m c _ 1 rfl) $$ Hq; iintro Hq
  iapply (wp_load_y m c 2) $$ Hy; iintro Hy
  iapply (wp_peek_q m c _) $$ Hq; iintro %v2 Hq
  iapply (wp_store_q m c _ 2 rfl) $$ Hq; iintro Hq
  iapply (wp_load_y m c 3) $$ Hy; iintro Hy
  rw [wp_ret]; imodintro
  iapply Hk
  isplitl [Hy]; · iexact Hy
  iexact Hq

/-- Part 13: the last quantised block, and the first transfer of one. -/
theorem part13 (v2 : BitVec 32) (Kt : (Σ' (v389 : BitVec 32) (v400 : BitVec 32) (c4 : BitVec 32) (v401 : BitVec 1), BitVec 32) → sProp 𝕄) :
    iprop((records m K ∗ owesX c 3 ∗ qbPts m c {2, 1, 0} ∗ (∃ f, vPts (fwd c 0) 0 f) ∗ dutyTok ER (kcell c (some (0, 0))) 0 0 ∗ dutyTok ER (kcell (fwd c 0) (some (1, 0))) 0 0) ∗ (∀ (v389 v400 c4 : BitVec 32) (v401 : BitVec 1) (c1 : BitVec 32), (owesX c 2 ∗ cred (tallyAt (kcell c (some (0, 0))) () (amt (some (0, 0)))) ∗ qPts c (fwd c 1) (Q m c) ∗ qPts c (fwd c 2) (Q m c) ∗ qPts c c (Q m c)) -∗ Kt ⟨v389, v400, c4, v401, c1⟩))
      ⊢ wp frame (wpE (defs₀ (F := F)) 𝒱₀ (c : Thread nD τ) none) Set.univ (k0_part13 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c v2 (inv m c) (Ysl m c 3)) Kt := by
  simp only [k0_part13_eq_skeleton]; unfold k0_part13_skel
  simp only [semSignalWord, semWaitWord, Prog.lift, Prog.bind_op, Prog.bind_ret, Prog.pure_eq_ret, wp_deviceId]
  iintro ⟨⟨#Hr, HO, Hq, HV0, Hts0, Htr0⟩, Hk⟩
  iapply (wp_peek_q m c _) $$ Hq; iintro %v3 Hq
  iapply (wp_store_q m c _ 3 rfl) $$ Hq; iintro Hq
  ihave Hq := (qbPts_all m c _ (by decide)) $$ Hq
  ihave Hq := (show _ ⊢ _ from Entails.of_eq (q_slots c (Q m c))) $$ Hq
  icases Hq with ⟨Hq0, Hq1, Hq2, Hqc⟩
  iapply (wp_send_d m K c 0 2 (dev7_eq c) (dsS_eq 0) (drS_eq 0) (Owe_3 c) (q_slice (off1_eq_0 c) _)) $$ [HO Hq0 HV0 Hts0 Htr0]
  · isplitr; · iexact Hr
    isplitl [HO]; · iexact HO
    isplitl [Hq0]; · iexact Hq0
    isplitl [HV0]; · iexact HV0
    isplitl [Hts0]; · iexact Hts0
    iexact Htr0
  iintro ⟨HO, Hc00⟩
  rw [wp_ret]; imodintro
  iapply Hk
  isplitl [HO]; · iexact HO
  isplitl [Hc00]; · iexact Hc00
  isplitl [Hq1]; · iexact Hq1
  isplitl [Hq2]; · iexact Hq2
  iexact Hqc

/-- Part 14: the second transfer of a quantised block. -/
theorem part14 (v2 v400 c4 : BitVec 32) (v401 : BitVec 1) (c1 : BitVec 32) (Kt : (Σ' (v410 : BitVec 32), BitVec 32) → sProp 𝕄) :
    iprop((records m K ∗ owesX c 2 ∗ qPts c (fwd c 1) (Q m c) ∗ (∃ f, vPts (fwd c 1) 1 f) ∗ dutyTok ER (kcell c (some (0, 1))) 0 0 ∗ dutyTok ER (kcell (fwd c 1) (some (1, 1))) 0 0) ∗ (∀ (v410 v431 : BitVec 32), (owesX c 1 ∗ cred (tallyAt (kcell c (some (0, 1))) () (amt (some (0, 1))))) -∗ Kt ⟨v410, v431⟩))
      ⊢ wp frame (wpE (defs₀ (F := F)) 𝒱₀ (c : Thread nD τ) none) Set.univ (k0_part14 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c v2 v400 c4 v401 c1) Kt := by
  simp only [k0_part14_eq_skeleton]; unfold k0_part14_skel
  simp only [semSignalWord, semWaitWord, Prog.lift, Prog.bind_op, Prog.bind_ret, Prog.pure_eq_ret, wp_deviceId]
  iintro ⟨⟨#Hr, HO, Hq1, HV1, Hts1, Htr1⟩, Hk⟩
  iapply (wp_send_d m K c 1 1 (dev8_eq c) (dsS_eq 1) (drS_eq 1) (Owe_2 c) (q_slice (off1_eq_1 c) _)) $$ [HO Hq1 HV1 Hts1 Htr1]
  · isplitr; · iexact Hr
    isplitl [HO]; · iexact HO
    isplitl [Hq1]; · iexact Hq1
    isplitl [HV1]; · iexact HV1
    isplitl [Hts1]; · iexact Hts1
    iexact Htr1
  iintro ⟨HO, Hc01⟩
  rw [wp_ret]; imodintro
  iapply Hk
  isplitl [HO]; · iexact HO
  iexact Hc01

/-- Part 15: the third transfer, the device's own rows of the result, and the first block received. -/
theorem part15 (v2 v389 : BitVec 32) (Kt : (Σ' (v463 : BitVec 32) (v468 : BitVec 1), BitVec 32) → sProp 𝕄) :
    iprop((records m K ∗ levAts L lv ∗ owesX c 1 ∗ qPts c (fwd c 2) (Q m c) ∗ (∃ f, vPts (fwd c 2) 2 f) ∗ dutyTok ER (kcell c (some (0, 2))) 0 0 ∗ dutyTok ER (kcell (fwd c 2) (some (1, 2))) 0 0 ∗ qPts c c (Q m c) ∗ oPts m c ∅ ∗ cred (tallyAt (kcell c (some (1, 0))) () (amt (some (1, 0)))) ∗ atPos ER (kcell c (some (1, 0))) 0 ∅ 0) ∗ (∀ (v463 : BitVec 32) (v468 : BitVec 1) (v469 : BitVec 32), (owesX c 0 ∗ cred (tallyAt (kcell c (some (0, 2))) () (amt (some (0, 2)))) ∗ qPts c c (Q m c) ∗ oPts m c {c} ∗ xferPay m c 1 0 ∗ semVal (kcell c (some (1, 0))) 0) -∗ Kt ⟨v463, v468, v469⟩))
      ⊢ wp frame (wpE (defs₀ (F := F)) 𝒱₀ (c : Thread nD τ) none) Set.univ (k0_part15 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c v2 (scl m c) v389) Kt := by
  simp only [k0_part15_eq_skeleton]; unfold k0_part15_skel
  simp only [semSignalWord, semWaitWord, Prog.lift, Prog.bind_op, Prog.bind_ret, Prog.pure_eq_ret, wp_deviceId]
  iintro ⟨⟨#Hr, #Hlev, HO, Hq2, HV2, Hts2, Htr2, Hqc, Ho, Hc10, Ha10⟩, Hk⟩
  iapply (wp_send_d m K c 2 0 (dev9_eq c) (dsS_eq 2) (drS_eq 2) (Owe_1 c) (q_slice (off1_eq_2 c) _)) $$ [HO Hq2 HV2 Hts2 Htr2]
  · isplitr; · iexact Hr
    isplitl [HO]; · iexact HO
    isplitl [Hq2]; · iexact Hq2
    isplitl [HV2]; · iexact HV2
    isplitl [Hts2]; · iexact Hts2
    iexact Htr2
  iintro ⟨HO, Hc02⟩
  iapply (wp_load_q m c (k0_off2_eq c)) $$ Hqc; iintro Hqc
  iapply (wp_peek_o m c _) $$ Ho; iintro %w Ho
  iapply (wp_store_o m c _ (c) (k0_off3_eq c) rfl) $$ Ho; iintro Ho
  iapply (wp_xfer m K c 1 0 0 (drS_eq 0) (lv_any _) (vSlot_credit 0)) $$ [Hc10 HO Ha10]
  · isplitr; · iexact Hr
    isplitl [Hc10]; · iexact Hc10
    isplitl [HO]; · iexact HO
    isplitr; · iexact Hlev
    iexact Ha10
  iintro ⟨HO, Hp10, Hz10⟩
  rw [wp_ret]; imodintro
  iapply Hk
  isplitl [HO]; · iexact HO
  isplitl [Hc02]; · iexact Hc02
  isplitl [Hqc]; · iexact Hqc
  isplitl [Ho]; · iexact Ho
  isplitl [Hp10]; · iexact Hp10
  iexact Hz10

/-- Part 16: the rows of the first device behind, and the second block received. -/
theorem part16 (v2 v410 v463 : BitVec 32) (v468 : BitVec 1) (v469 : BitVec 32) (Kt : (Σ' (v498 : BitVec 32), FVec F S1024x2048 .f32) → sProp 𝕄) :
    iprop((records m K ∗ levAts L lv ∗ owesX c 0 ∗ vPts c 0 (Rv m c) ∗ oPts m c {c} ∗ cred (tallyAt (kcell c (some (1, 1))) () (amt (some (1, 1)))) ∗ atPos ER (kcell c (some (1, 1))) 0 ∅ 0) ∗ (∀ (v498 : BitVec 32), (owesX c 0 ∗ vPts c 0 (Rv m c) ∗ oPts m c {bwd c 0, c} ∗ vPts c 1 (Rv m c) ∗ semVal (kcell c (some (1, 1))) 0) -∗ Kt ⟨v498, k0_pay35 (scl m c) (qrow m c (bwd c 1))⟩))
      ⊢ wp frame (wpE (defs₀ (F := F)) 𝒱₀ (c : Thread nD τ) none) Set.univ (k0_part16 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c v2 (scl m c) v410 v463 v468 v469) Kt := by
  simp only [k0_part16_eq_skeleton]; unfold k0_part16_skel
  simp only [semSignalWord, semWaitWord, Prog.lift, Prog.bind_op, Prog.bind_ret, Prog.pure_eq_ret, wp_deviceId]
  iintro ⟨⟨#Hr, #Hlev, HO, Hp10, Ho, Hc11, Ha11⟩, Hk⟩
  iapply (wp_load_v m c 0) $$ Hp10; iintro Hp10
  iapply (wp_peek_o m c _) $$ Ho; iintro %w Ho
  iapply (wp_store_o m c _ (bwd c 0) (off4_eq_0 c) rfl) $$ Ho; iintro Ho
  iapply (wp_xfer m K c 1 1 0 (drS_eq 1) (lv_any _) (vSlot_credit 1)) $$ [Hc11 HO Ha11]
  · isplitr; · iexact Hr
    isplitl [Hc11]; · iexact Hc11
    isplitl [HO]; · iexact HO
    isplitr; · iexact Hlev
    iexact Ha11
  iintro ⟨HO, Hp11, Hz11⟩
  ihave Hp11 := (show xferPay m c 1 1 ⊢ vPts c 1 (Rv m c) from BI.Entails.refl _) $$ Hp11
  iapply (wp_load_v m c 1) $$ Hp11; iintro Hp11
  rw [wp_ret]; imodintro
  iapply Hk
  isplitl [HO]; · iexact HO
  isplitl [Hp10]; · iexact Hp10
  isplitl [Ho]; · iexact Ho
  isplitl [Hp11]; · iexact Hp11
  iexact Hz11

/-- Part 17: the rows of the other two devices. -/
theorem part17 (v2 v431 v498 : BitVec 32) (Kt : PUnit → sProp 𝕄) :
    iprop((records m K ∗ levAts L lv ∗ owesX c 0 ∗ oPts m c {bwd c 0, c} ∗ cred (tallyAt (kcell c (some (1, 2))) () (amt (some (1, 2)))) ∗ atPos ER (kcell c (some (1, 2))) 0 ∅ 0) ∗ ((owesX c 0 ∗ oPts m c {bwd c 2, bwd c 1, bwd c 0, c} ∗ vPts c 2 (Rv m c) ∗ semVal (kcell c (some (1, 2))) 0) -∗ Kt ⟨⟩))
      ⊢ wp frame (wpE (defs₀ (F := F)) 𝒱₀ (c : Thread nD τ) none) Set.univ (k0_part17 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10 c v2 (scl m c) v431 v498 (k0_pay35 (scl m c) (qrow m c (bwd c 1)))) Kt := by
  simp only [k0_part17_eq_skeleton]; unfold k0_part17_skel
  simp only [semSignalWord, semWaitWord, Prog.lift, Prog.bind_op, Prog.bind_ret, Prog.pure_eq_ret, wp_deviceId]
  iintro ⟨⟨#Hr, #Hlev, HO, Ho, Hc12, Ha12⟩, Hk⟩
  iapply (wp_peek_o m c _) $$ Ho; iintro %w Ho
  iapply (wp_store_o m c _ (bwd c 1) (off4_eq_1 c) rfl) $$ Ho; iintro Ho
  iapply (wp_xfer m K c 1 2 0 (drS_eq 2) (lv_any _) (vSlot_credit 2)) $$ [Hc12 HO Ha12]
  · isplitr; · iexact Hr
    isplitl [Hc12]; · iexact Hc12
    isplitl [HO]; · iexact HO
    isplitr; · iexact Hlev
    iexact Ha12
  iintro ⟨HO, Hp12, Hz12⟩
  ihave Hp12 := (show xferPay m c 1 2 ⊢ vPts c 2 (Rv m c) from BI.Entails.refl _) $$ Hp12
  iapply (wp_load_v m c 2) $$ Hp12; iintro Hp12
  iapply (wp_peek_o m c _) $$ Ho; iintro %w Ho
  iapply (wp_store_o m c _ (bwd c 2) (off4_eq_2 c) rfl) $$ Ho; iintro Ho
  rw [wp_ret]; imodintro
  iapply Hk
  isplitl [HO]; · iexact HO
  isplitl [Ho]; · iexact Ho
  isplitl [Hp12]; · iexact Hp12
  iexact Hz12

end Body

end Cert.KernelIdeal.Run

end
-- ==== Proof.KernelIdeal.Body.lean ====
/-
The whole program of one device: its parts in order, and the last three waits.
-/
module

public import proofs.«01_k».proof.Proof.KernelIdeal.BodyB

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The tokens of the units and of the transfers that a device's own sends pay for. -/
def payToks (c : Dev nD) : sProp 𝕄 := iprop(dutyTok ER (kcell (fwd c 0) none) 0 0 ∗ dutyTok ER (kcell (fwd c 1) none) 0 1 ∗ dutyTok ER (kcell (fwd c 2) none) 0 2 ∗ dutyTok ER (kcell (fwd c 0) (some (3, 0))) 0 0 ∗ dutyTok ER (kcell (fwd c 1) (some (3, 1))) 0 0 ∗ dutyTok ER (kcell (fwd c 2) (some (3, 2))) 0 0 ∗ dutyTok ER (kcell (fwd c 0) (some (1, 0))) 0 0 ∗ dutyTok ER (kcell (fwd c 1) (some (1, 1))) 0 0 ∗ dutyTok ER (kcell (fwd c 2) (some (1, 2))) 0 0 ∗ dutyTok ER (kcell c (some (2, 0))) 0 0 ∗ dutyTok ER (kcell c (some (2, 1))) 0 0 ∗ dutyTok ER (kcell c (some (2, 2))) 0 0 ∗ dutyTok ER (kcell c (some (0, 0))) 0 0 ∗ dutyTok ER (kcell c (some (0, 1))) 0 0 ∗ dutyTok ER (kcell c (some (0, 2))) 0 0)
/-- A device's positions at its own counters. -/
def positions (c : Dev nD) : sProp 𝕄 := iprop(atPos ER (kcell c none) 0 ∅ 0 ∗ atPos ER (kcell c (some (0, 0))) 0 ∅ 0 ∗ atPos ER (kcell c (some (0, 1))) 0 ∅ 0 ∗ atPos ER (kcell c (some (0, 2))) 0 ∅ 0 ∗ atPos ER (kcell c (some (1, 0))) 0 ∅ 0 ∗ atPos ER (kcell c (some (1, 1))) 0 ∅ 0 ∗ atPos ER (kcell c (some (1, 2))) 0 ∅ 0 ∗ atPos ER (kcell c (some (2, 0))) 0 ∅ 0 ∗ atPos ER (kcell c (some (2, 1))) 0 ∅ 0 ∗ atPos ER (kcell c (some (2, 2))) 0 ∅ 0 ∗ atPos ER (kcell c (some (3, 0))) 0 ∅ 0 ∗ atPos ER (kcell c (some (3, 1))) 0 ∅ 0 ∗ atPos ER (kcell c (some (3, 2))) 0 ∅ 0)
/-- What the others owe a device at the start. -/
def creds (c : Dev nD) : sProp 𝕄 := iprop(cred (tallyAt (kcell c none) () 3) ∗ cred (tallyAt (kcell c (some (3, 0))) () (amt (some (3, 0)))) ∗ cred (tallyAt (kcell c (some (3, 1))) () (amt (some (3, 1)))) ∗ cred (tallyAt (kcell c (some (3, 2))) () (amt (some (3, 2)))) ∗ cred (tallyAt (kcell c (some (1, 0))) () (amt (some (1, 0)))) ∗ cred (tallyAt (kcell c (some (1, 1))) () (amt (some (1, 1)))) ∗ cred (tallyAt (kcell c (some (1, 2))) () (amt (some (1, 2)))))
/-- A device's counters, all at zero. -/
def zeros (c : Dev nD) : sProp 𝕄 := iprop(semVal (kcell c none) 0 ∗ semVal ((c : Thread nD τ), SemLoc.dma (wsS 0)) 0 ∗ semVal ((c : Thread nD τ), SemLoc.dma (wsS 1)) 0 ∗ semVal (kcell c (some (0, 0))) 0 ∗ semVal (kcell c (some (0, 1))) 0 ∗ semVal (kcell c (some (0, 2))) 0 ∗ semVal (kcell c (some (1, 0))) 0 ∗ semVal (kcell c (some (1, 1))) 0 ∗ semVal (kcell c (some (1, 2))) 0 ∗ semVal (kcell c (some (2, 0))) 0 ∗ semVal (kcell c (some (2, 1))) 0 ∗ semVal (kcell c (some (2, 2))) 0 ∗ semVal (kcell c (some (3, 0))) 0 ∗ semVal (kcell c (some (3, 1))) 0 ∗ semVal (kcell c (some (3, 2))) 0)
/-- A device's working buffers, whatever they hold. -/
def scr (c : Dev nD) : sProp 𝕄 := iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f))

theorem out_all : ∀ c : Dev nD, ({bwd c 2, bwd c 1, bwd c 0, c} : Finset (Fin 4)) = Finset.univ := by decide

section Body
variable (K : Dev nD × CK → ℕ) (c : Dev nD)

omit [FloatOps F] in
/-- What the wait at the barrier hands over: the landing places on the three other devices. -/
theorem barPay_eq : (iprop(barPay c 0 ∗ barPay c 1 ∗ barPay c 2) : sProp 𝕄)
    = iprop(((∃ f, rPts (fwd c 2) 2 f) ∗ (∃ f, vPts (fwd c 2) 2 f)) ∗ ((∃ f, rPts (fwd c 1) 1 f) ∗ (∃ f, vPts (fwd c 1) 1 f)) ∗ ((∃ f, rPts (fwd c 0) 0 f) ∗ (∃ f, vPts (fwd c 0) 0 f))) := by
  have h : ∀ k : Fin 3, (barPay c k : sProp 𝕄) = iprop((∃ f, rPts (fwd c (opp k)) (opp k) f) ∗ (∃ f, vPts (fwd c (opp k)) (opp k) f)) := fun k => by
    unfold barPay
    rw [← bwd_opp c (opp k), opp_opp]
  rw [h 0, h 1, h 2]
  rfl

set_option maxHeartbeats 1600000 in
/-- The whole program of one device, from its buffers, positions and tokens to the result. -/
theorem part18 (Kt : PUnit → sProp 𝕄) :
    iprop((records m K ∗ levAts L lv ∗ owesX c 9 ∗ payToks c ∗ positions c ∗ creds c ∗ semVal ((c : Thread nD τ), SemLoc.dma (wsS 0)) 0 ∗ semVal ((c : Thread nD τ), SemLoc.dma (wsS 1)) 0 ∗ (xM.view.loc (c : Thread nD τ) ↦{fullShare} xstg m c) ∗ (((c : Thread nD τ).loc main_arg1) ↦{fullShare} m ((c : Thread nD τ).loc main_arg1)) ∗ scr c ∗ oPts m c ∅) ∗ ((owesX c 0 ∗ zeros c ∗ (xM.view.loc (c : Thread nD τ) ↦{fullShare} xstg m c) ∗ (((c : Thread nD τ).loc main_arg1) ↦{fullShare} m ((c : Thread nD τ).loc main_arg1)) ∗ scr c ∗ (oM.view.loc (c : Thread nD τ) ↦{fullShare} O m c)) -∗ Kt ⟨⟩))
      ⊢ wp frame (wpE (defs₀ (F := F)) 𝒱₀ (c : Thread nD τ) none) Set.univ (k0_part18 (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10) Kt := by
  simp only [k0_part18_eq_skeleton]; unfold k0_part18_skel
  unfold payToks positions creds zeros scr
  iintro ⟨⟨#Hr, #Hlev, HO, ⟨Htb0, Htb1, Htb2, Htr0, Htr1, Htr2, Htd0, Htd1, Htd2, Hts0, Hts1, Hts2, Hte0, Hte1, Hte2⟩, ⟨Hab, Ha00, Ha01, Ha02, Ha10, Ha11, Ha12, Ha20, Ha21, Ha22, Ha30, Ha31, Ha32⟩, ⟨Hcb, Hc30, Hc31, Hc32, Hc10, Hc11, Hc12⟩, Hs0, Hs1, Hx, HW, ⟨⟨%f0, Hy⟩, ⟨%f1, Hq⟩, ⟨%f2, Hv⟩, ⟨%f3, Hb⟩, ⟨%f4, Htx⟩, ⟨%f5, Hrr⟩⟩, Ho⟩, Hk⟩
  ihave HW := (show _ ⊢ _ from Entails.of_eq (w_slots m c)) $$ HW
  icases HW with ⟨Hw0, Hw1, Hw2, Hw3, Hw4, Hw5, Hw6, Hw7⟩
  ihave Hb := (show _ ⊢ _ from Entails.of_eq (b_slots c f3)) $$ Hb
  icases Hb with ⟨Hb0, Hb1⟩
  ihave Hrr := (show _ ⊢ _ from Entails.of_eq (r_slots c f5)) $$ Hrr
  icases Hrr with ⟨Hl0, Hl1, Hl2⟩
  ihave Hv := (show _ ⊢ _ from Entails.of_eq (v_slots c f2)) $$ Hv
  icases Hv with ⟨Hm0, Hm1, Hm2⟩
  ihave Hy := (show ((((c : Thread nD τ).loc cc0_scratch0) ↦{fullShare} f0) : sProp 𝕄) ⊢ yPts m c ∅ from by unfold yPts; iintro H; iexists f0; isplitr <;> [(ipureintro; exact fun i hi => absurd hi (Finset.notMem_empty _)); iexact H]) $$ Hy
  ihave Hq := (show ((((c : Thread nD τ).loc cc0_scratch1) ↦{fullShare} f1) : sProp 𝕄) ⊢ qbPts m c ∅ from by unfold qbPts; iintro H; iexists f1; isplitr <;> [(ipureintro; exact fun i hi => absurd hi (Finset.notMem_empty _)); iexact H]) $$ Hq
  rw [wp_bind]
  iapply (part1 m K c _)
  isplitl [HO Htb0 Hl2 Hm2 Htb1 Hl1 Hm1]
  · isplitr; · iexact Hr
    isplitl [HO]; · iexact HO
    isplitl [Htb0]; · iexact Htb0
    isplitl [Hl2]; · (iexists f5; iexact Hl2)
    isplitl [Hm2]; · (iexists f2; iexact Hm2)
    isplitl [Htb1]; · iexact Htb1
    isplitl [Hl1]; · (iexists f5; iexact Hl1)
    (iexists f2; iexact Hm1)
  iintro HO %v2 %v30 %v31
  rw [wp_bind]
  iapply (part2 m K c f3 _ _ _)
  isplitl [HO Htb2 Hl0 Hm0 Hcb Hab Hw0 Hw1 Hb0 Hb1 Hs0 Hs1 Hx]
  · isplitr; · iexact Hr
    isplitl [HO]; · iexact HO
    isplitl [Htb2]; · iexact Htb2
    isplitl [Hl0]; · (iexists f5; iexact Hl0)
    isplitl [Hm0]; · (iexists f2; iexact Hm0)
    isplitl [Hcb]; · iexact Hcb
    isplitr; · iexact Hlev
    isplitl [Hab]; · iexact Hab
    isplitl [Hw0]; · iexact Hw0
    isplitl [Hw1]; · iexact Hw1
    isplitl [Hb0]; · iexact Hb0
    isplitl [Hb1]; · iexact Hb1
    isplitl [Hs0]; · iexact Hs0
    isplitl [Hs1]; · iexact Hs1
    iexact Hx
  iintro ⟨HO, Hp, Hzb, HF0, HF1, Hx⟩
  ihave Hp := (show _ ⊢ _ from Entails.of_eq (barPay_eq c)) $$ Hp
  icases Hp with ⟨⟨HR2, HV2⟩, ⟨HR1, HV1⟩, HR0, HV0⟩
  rw [wp_bind]
  iapply (part3 m c _)
  isplitl [HO HF0 HF1 Hw2 Hy]
  · isplitr; · iexact Hlev
    isplitl [HO]; · iexact HO
    isplitl [HF0]; · iexact HF0
    isplitl [HF1]; · iexact HF1
    isplitl [Hw2]; · iexact Hw2
    iexact Hy
  iintro ⟨HO, Hb1, Hs1, HF0, Hw0, Hw1, Hy⟩
  rw [wp_bind]
  iapply (part4 m c _)
  isplitl [HO HF0 Hb1 Hs1 Hw3 Hy]
  · isplitr; · iexact Hlev
    isplitl [HO]; · iexact HO
    isplitl [HF0]; · iexact HF0
    isplitl [Hb1]; · iexact Hb1
    isplitl [Hs1]; · iexact Hs1
    isplitl [Hw3]; · iexact Hw3
    iexact Hy
  iintro ⟨HO, HF1, Hb0, Hs0, Hw2, Hy⟩
  rw [wp_bind]
  iapply (part5 m c _)
  isplitl [HO HF1 Hb0 Hs0 Hw4 Hw5 Hy]
  · isplitr; · iexact Hlev
    isplitl [HO]; · iexact HO
    isplitl [HF1]; · iexact HF1
    isplitl [Hb0]; · iexact Hb0
    isplitl [Hs0]; · iexact Hs0
    isplitl [Hw4]; · iexact Hw4
    isplitl [Hw5]; · iexact Hw5
    iexact Hy
  iintro ⟨HO, HF1, Hb0, Hs0, Hw3, Hw4, Hy⟩
  rw [wp_bind]
  iapply (part6 m c _)
  isplitl [HO HF1 Hb0 Hs0 Hw6 Hy]
  · isplitr; · iexact Hlev
    isplitl [HO]; · iexact HO
    isplitl [HF1]; · iexact HF1
    isplitl [Hb0]; · iexact Hb0
    isplitl [Hs0]; · iexact Hs0
    isplitl [Hw6]; · iexact Hw6
    iexact Hy
  iintro ⟨HO, HF0, Hb1, Hs1, Hw5, Hy⟩
  rw [wp_bind]
  iapply (part7 m c _)
  isplitl [HO HF0 Hb1 Hs1 Hw7 Hy]
  · isplitr; · iexact Hlev
    isplitl [HO]; · iexact HO
    isplitl [HF0]; · iexact HF0
    isplitl [Hb1]; · iexact Hb1
    isplitl [Hs1]; · iexact Hs1
    isplitl [Hw7]; · iexact Hw7
    iexact Hy
  iintro ⟨HO, Hb0, Hs0, Hw6, Hb1, Hs1, Hw7, Hy⟩
  rw [wp_bind]
  iapply (part8 m K c f4 _ _)
  isplitl [HO Hb1 Hy Htx HR0 Hts0 Htr0]
  · isplitr; · iexact Hr
    isplitl [HO]; · iexact HO
    isplitl [Hb1]; · iexact Hb1
    isplitl [Hy]; · iexact Hy
    isplitl [Htx]; · iexact Htx
    isplitl [HR0]; · iexact HR0
    isplitl [Hts0]; · iexact Hts0
    iexact Htr0
  iintro %v235
  iintro ⟨HO, Hb1, Hy, Htx1, Htx2, Hc20⟩
  rw [wp_bind]
  iapply (part9 m K c _ _)
  isplitl [HO Htx1 HR1 Hts1 Htr1]
  · isplitr; · iexact Hr
    isplitl [HO]; · iexact HO
    isplitl [Htx1]; · iexact Htx1
    isplitl [HR1]; · iexact HR1
    isplitl [Hts1]; · iexact Hts1
    iexact Htr1
  iintro %v254 %v273
  iintro ⟨HO, Hc21⟩
  rw [wp_bind]
  iapply (part10 m K c _ _ _)
  isplitl [HO Htx2 HR2 Hts2 Htr2 Hc20 Ha20 Hc30 Ha30 Hc21 Ha21 Hc31 Ha31]
  · isplitr; · iexact Hr
    isplitr; · iexact Hlev
    isplitl [HO]; · iexact HO
    isplitl [Htx2]; · iexact Htx2
    isplitl [HR2]; · iexact HR2
    isplitl [Hts2]; · iexact Hts2
    isplitl [Htr2]; · iexact Htr2
    isplitl [Hc20]; · iexact Hc20
    isplitl [Ha20]; · iexact Ha20
    isplitl [Hc30]; · iexact Hc30
    isplitl [Ha30]; · iexact Ha30
    isplitl [Hc21]; · iexact Hc21
    isplitl [Ha21]; · iexact Ha21
    isplitl [Hc31]; · iexact Hc31
    iexact Ha31
  iintro ⟨HO, Hc22, Hp20, Hz20, Hp30, Hz30, Hp21, Hz21, Hp31, Hz31⟩
  rw [wp_bind]
  iapply (part11 m K c _ _)
  isplitl [HO Hc22 Ha22 Hc32 Ha32 Hp30 Hp31]
  · isplitr; · iexact Hr
    isplitr; · iexact Hlev
    isplitl [HO]; · iexact HO
    isplitl [Hc22]; · iexact Hc22
    isplitl [Ha22]; · iexact Ha22
    isplitl [Hc32]; · iexact Hc32
    isplitl [Ha32]; · iexact Ha32
    isplitl [Hp30]; · iexact Hp30
    iexact Hp31
  iintro ⟨HO, Hp22, Hz22, Hz32, Hrx⟩
  rw [wp_bind]
  iapply (part12 m c _)
  isplitl [Hy Hq]
  · isplitl [Hy]; · iexact Hy
    iexact Hq
  iintro ⟨Hy, Hq⟩
  rw [wp_bind]
  iapply (part13 m K c _ _)
  isplitl [HO Hq HV0 Hte0 Htd0]
  · isplitr; · iexact Hr
    isplitl [HO]; · iexact HO
    isplitl [Hq]; · iexact Hq
    isplitl [HV0]; · iexact HV0
    isplitl [Hte0]; · iexact Hte0
    iexact Htd0
  iintro %v389 %v400 %c4 %v401 %c1
  iintro ⟨HO, Hc00, Hq1, Hq2, Hqc⟩
  rw [wp_bind]
  iapply (part14 m K c _ _ _ _ _ _)
  isplitl [HO Hq1 HV1 Hte1 Htd1]
  · isplitr; · iexact Hr
    isplitl [HO]; · iexact HO
    isplitl [Hq1]; · iexact Hq1
    isplitl [HV1]; · iexact HV1
    isplitl [Hte1]; · iexact Hte1
    iexact Htd1
  iintro %v410 %v431
  iintro ⟨HO, Hc01⟩
  rw [wp_bind]
  iapply (part15 m K c _ _ _)
  isplitl [HO Hq2 HV2 Hte2 Htd2 Hqc Ho Hc10 Ha10]
  · isplitr; · iexact Hr
    isplitr; · iexact Hlev
    isplitl [HO]; · iexact HO
    isplitl [Hq2]; · iexact Hq2
    isplitl [HV2]; · iexact HV2
    isplitl [Hte2]; · iexact Hte2
    isplitl [Htd2]; · iexact Htd2
    isplitl [Hqc]; · iexact Hqc
    isplitl [Ho]; · iexact Ho
    isplitl [Hc10]; · iexact Hc10
    iexact Ha10
  iintro %v463 %v468 %v469
  iintro ⟨HO, Hc02, Hqc, Ho, Hp10, Hz10⟩
  ihave Hp10 := (show xferPay m c 1 0 ⊢ vPts c 0 (Rv m c) from BI.Entails.refl _) $$ Hp10
  rw [wp_bind]
  iapply (part16 m K c _ _ _ _ _ _)
  isplitl [HO Hp10 Ho Hc11 Ha11]
  · isplitr; · iexact Hr
    isplitr; · iexact Hlev
    isplitl [HO]; · iexact HO
    isplitl [Hp10]; · iexact Hp10
    isplitl [Ho]; · iexact Ho
    isplitl [Hc11]; · iexact Hc11
    iexact Ha11
  iintro %v498
  iintro ⟨HO, Hp10, Ho, Hp11, Hz11⟩
  rw [wp_bind]
  iapply (part17 m K c _ _ _ _)
  isplitl [HO Ho Hc12 Ha12]
  · isplitr; · iexact Hr
    isplitr; · iexact Hlev
    isplitl [HO]; · iexact HO
    isplitl [Ho]; · iexact Ho
    isplitl [Hc12]; · iexact Hc12
    iexact Ha12
  iintro ⟨HO, Ho, Hp12, Hz12⟩
  simp only [Prog.lift, Prog.bind_op, Prog.bind_ret, Prog.pure_eq_ret]
  iapply (wp_xfer m K c 0 0 0 (dsS_eq 0) (lv_any _) (q_credit 0 _ _)) $$ [Hc00 HO Ha00]
  · isplitr; · iexact Hr
    isplitl [Hc00]; · iexact Hc00
    isplitl [HO]; · iexact HO
    isplitr; · iexact Hlev
    iexact Ha00
  iintro ⟨HO, Hp00, Hz00⟩
  iapply (wp_xfer m K c 0 1 0 (dsS_eq 1) (lv_any _) (q_credit 1 _ _)) $$ [Hc01 HO Ha01]
  · isplitr; · iexact Hr
    isplitl [Hc01]; · iexact Hc01
    isplitl [HO]; · iexact HO
    isplitr; · iexact Hlev
    iexact Ha01
  iintro ⟨HO, Hp01, Hz01⟩
  iapply (wp_xfer m K c 0 2 0 (dsS_eq 2) (lv_any _) (q_credit 2 _ _)) $$ [Hc02 HO Ha02]
  · isplitr; · iexact Hr
    isplitl [Hc02]; · iexact Hc02
    isplitl [HO]; · iexact HO
    isplitr; · iexact Hlev
    iexact Ha02
  iintro ⟨HO, Hp02, Hz02⟩
  ihave Hp00 := (show xferPay m c 0 0 ⊢ qPts c (fwd c 0) (Q m c) from BI.Entails.refl _) $$ Hp00
  ihave Hp01 := (show xferPay m c 0 1 ⊢ qPts c (fwd c 1) (Q m c) from BI.Entails.refl _) $$ Hp01
  ihave Hp02 := (show xferPay m c 0 2 ⊢ qPts c (fwd c 2) (Q m c) from BI.Entails.refl _) $$ Hp02
  ihave Hp20 := (show xferPay m c 2 0 ⊢ txPts c (tsh 0) (tx m c) from BI.Entails.refl _) $$ Hp20
  ihave Hp21 := (show xferPay m c 2 1 ⊢ txPts c (tsh 1) (tx m c) from BI.Entails.refl _) $$ Hp21
  ihave Hp22 := (show xferPay m c 2 2 ⊢ txPts c (tsh 2) (tx m c) from BI.Entails.refl _) $$ Hp22
  rw [wp_ret]; imodintro
  iapply Hk
  isplitl [HO]; · iexact HO
  isplitl [Hzb Hs0 Hs1 Hz00 Hz01 Hz02 Hz10 Hz11 Hz12 Hz20 Hz21 Hz22 Hz30 Hz31 Hz32]
  · isplitl [Hzb]; · iexact Hzb
    isplitl [Hs0]; · iexact Hs0
    isplitl [Hs1]; · iexact Hs1
    isplitl [Hz00]; · iexact Hz00
    isplitl [Hz01]; · iexact Hz01
    isplitl [Hz02]; · iexact Hz02
    isplitl [Hz10]; · iexact Hz10
    isplitl [Hz11]; · iexact Hz11
    isplitl [Hz12]; · iexact Hz12
    isplitl [Hz20]; · iexact Hz20
    isplitl [Hz21]; · iexact Hz21
    isplitl [Hz22]; · iexact Hz22
    isplitl [Hz30]; · iexact Hz30
    isplitl [Hz31]; · iexact Hz31
    iexact Hz32
  isplitl [Hx]; · iexact Hx
  isplitl [Hw0 Hw1 Hw2 Hw3 Hw4 Hw5 Hw6 Hw7]
  · iapply (show _ ⊢ _ from Entails.of_eq (w_slots m c).symm)
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitr [Ho]
  · isplitl [Hy]; · (iexists _; iexact Hy)
    isplitl [Hp00 Hp01 Hp02 Hqc]
    · iexists Q m c
      iapply (show _ ⊢ _ from Entails.of_eq (q_slots c (Q m c)).symm)
      isplitl [Hp00]; · iexact Hp00
      isplitl [Hp01]; · iexact Hp01
      isplitl [Hp02]; · iexact Hp02
      iexact Hqc
    isplitl [Hp10 Hp11 Hp12]
    · iexists Rv m c
      iapply (show _ ⊢ _ from Entails.of_eq (v_slots c (Rv m c)).symm)
      isplitl [Hp10]; · iexact Hp10
      isplitl [Hp11]; · iexact Hp11
      iexact Hp12
    isplitl [Hb0 Hb1]
    · iapply (b_join c (bC m c 6) (bC m c 7))
      isplitl [Hb0]; · iexact Hb0
      iexact Hb1
    isplitl [Hp20 Hp21 Hp22]
    · iexists tx m c
      iapply (show _ ⊢ _ from Entails.of_eq (tx_shares c (tx m c)).symm)
      isplitl [Hp20]; · iexact Hp20
      isplitl [Hp21]; · iexact Hp21
      iexact Hp22
    iexists _; iexact Hrx
  iapply (oPts_all m c _ (out_all c)) $$ Ho

end Body

end Cert.KernelIdeal.Run

end
-- ==== Proof.KernelIdeal.Ghost.lean ====
/-
What the launch hands each device: the invariants of the counters, its positions, tokens and credits.
-/
module

public import proofs.«01_k».proof.Proof.KernelIdeal.Body

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost state -/

/-- The kernel's own semaphores: two for the local copies, twelve for the transfers. -/
theorem osem_lt (i : Fin 14) : 2 + i.val < 16 := by omega
set_option backward.proofsInPublic true in
abbrev osem : Fin 14 → SemLoc sig := fun i => .dma ⟨2 + i.val, osem_lt i⟩
theorem ownSemFacts : Pipeline.OwnSemFacts cfg0.spec osem := by decide +kernel

theorem kcell_injective : Function.Injective (fun x : Dev nD × CK => kcell x.1 x.2) := by
  rintro ⟨c, k⟩ ⟨c', k'⟩ h
  have h1 : c = c' := congrArg (fun g : GSem nD τ sig => g.1.1) h
  have h2 : k = k' := csem_inj (congrArg (fun g : GSem nD τ sig => g.2) h)
  rw [h1, h2]
def ringCells : Finset (GSem nD τ sig) := Finset.univ.map ⟨fun x : Dev nD × CK => kcell x.1 x.2, kcell_injective⟩

/-- The duties of a device's cells, numbered: by role, the barrier being role 4. -/
abbrev TK : Type := Fin 5 × Fin 3
set_option backward.proofsInPublic true in
def tkc (i : TK) : CK × Fin 3 := if h : i.1.val < 4 then (some (⟨i.1.val, h⟩, i.2), 0) else (none, i.2)
theorem tkc_inj : Function.Injective tkc := by decide +kernel
abbrev tokOf (x : Dev nD × TK) : GSem nD τ sig × ℕ × Fin 3 := (kcell x.1 (tkc x.2).1, 0, (tkc x.2).2)
theorem tokOf_injective : Function.Injective tokOf := by
  rintro ⟨c, i⟩ ⟨c', i'⟩ h
  have h1 : c = c' := congrArg (fun x : GSem nD τ sig × ℕ × Fin 3 => x.1.1.1) h
  have h2 : (tkc i).1 = (tkc i').1 := csem_inj (congrArg (fun x : GSem nD τ sig × ℕ × Fin 3 => x.1.2) h)
  have h3 : (tkc i).2 = (tkc i').2 := congrArg (fun x : GSem nD τ sig × ℕ × Fin 3 => x.2.2) h
  rw [h1, tkc_inj (Prod.ext h2 h3)]
def ringToks : Finset (GSem nD τ sig × ℕ × Fin 3) := Finset.univ.map ⟨tokOf, tokOf_injective⟩

def u₀ : UU := (initOf (Pipeline.cells cfgs cellOf_inj) (Pipeline.launchToks cfgs cellOf_inj), (initOf ringCells ringToks, 1))

omit [FloatOps F] in
theorem ownU_split (a : UR sig nD τ) (b : UB) :
    (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

def toks (c : Dev nD) : sProp 𝕄 := bigSep Finset.univ fun i : TK => dutyTok ER (kcell c (tkc i).1) 0 (tkc i).2

def G (c : Dev nD) : sProp 𝕄 :=
  iprop((bigSep Finset.univ fun k : CK => roundState ER (ringRd m) (kcell c k) 0)
    ∗ (bigSep Finset.univ fun k : CK => atPos ER (kcell c k) 0 ∅ 0) ∗ (bigSep Finset.univ fun k : CK => reached ER (kcell c k) 0) ∗ toks c)

/-- The two counters of the local copies. -/
def wzeros (c : Dev nD) : sProp 𝕄 := iprop(semVal ((c : Thread nD τ), SemLoc.dma (wsS 0)) 0 ∗ semVal ((c : Thread nD τ), SemLoc.dma (wsS 1)) 0)

def ghost (K : Dev nD × CK → ℕ) (c : Dev nD) : sProp 𝕄 := iprop(records m K ∗ positions c ∗ payToks c ∗ wzeros c)
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem positions_eq (c : Dev nD) : (bigSep Finset.univ fun k : CK => (atPos ER (kcell c k) 0 ∅ 0 : sProp 𝕄)) = positions c := by
  rw [bigSep_univ_eq_bigSepL [none, some (0, 0), some (0, 1), some (0, 2), some (1, 0), some (1, 1), some (1, 2), some (2, 0), some (2, 1), some (2, 2), some (3, 0), some (3, 1), some (3, 2)] (by decide +kernel) (by decide +kernel)]
  rfl

omit [FloatOps F] in
theorem unscopedSems0_eq (c : Dev nD) : (unscopedSems0 c : sProp 𝕄) = semVal (kcell c none) 0 := by
  unfold unscopedSems0; rw [bigSep_eq_bigSepL_of_eq [SemLoc.reg barS] (by decide) (by decide)]; rfl

omit [FloatOps F] in
theorem zeros_eq (c : Dev nD) :
    (iprop(unscopedSems0 c ∗ Pipeline.ownSems0 (Ix := Unit) (Name := ℕ) (U := UU) (Lvl := ℕ) (Val := Elt F) (τ := τ) osem c) : sProp 𝕄) = zeros c := by
  rw [Pipeline.ownSems0_eq_of_list c osem [0, 1, 2, 3, 4, 5, 6, 7, 8, 9, 10, 11, 12, 13] (by decide +kernel) (by decide +kernel), unscopedSems0_eq]
  unfold zeros
  rw [wsS_eq 0, wsS_eq 1]
  rfl

omit [FloatOps F] in
theorem sems0_split (c : Dev nD) :
    (zeros c : sProp 𝕄) ⊢ iprop((bigSep Finset.univ fun k : CK => semVal (kcell c k) 0) ∗ wzeros c) := by
  rw [bigSep_univ_eq_bigSepL [none, some (0, 0), some (0, 1), some (0, 2), some (1, 0), some (1, 1), some (1, 2), some (2, 0), some (2, 1), some (2, 2), some (3, 0), some (3, 1), some (3, 2)] (by decide +kernel) (by decide +kernel)]
  show (zeros c : sProp 𝕄) ⊢ iprop((semVal (kcell c none) 0 ∗ semVal (kcell c (some (0, 0))) 0 ∗ semVal (kcell c (some (0, 1))) 0 ∗ semVal (kcell c (some (0, 2))) 0 ∗ semVal (kcell c (some (1, 0))) 0 ∗ semVal (kcell c (some (1, 1))) 0 ∗ semVal (kcell c (some (1, 2))) 0 ∗ semVal (kcell c (some (2, 0))) 0 ∗ semVal (kcell c (some (2, 1))) 0 ∗ semVal (kcell c (some (2, 2))) 0 ∗ semVal (kcell c (some (3, 0))) 0 ∗ semVal (kcell c (some (3, 1))) 0 ∗ semVal (kcell c (some (3, 2))) 0) ∗ wzeros c)
  unfold zeros wzeros
  iintro ⟨H, H0, H1, Hr⟩
  isplitl [H Hr]
  · isplitl [H]; · iexact H
    iexact Hr
  · isplitl [H0]; · iexact H0
    iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell c k)))
          ∗ (bigSep Finset.univ fun k : CK => reached ER (kcell c k) 0) ∗ (positions c ∗ wzeros c) ∗ toks c) := by
  unfold G
  iintro ⟨Hos, Hus, Hst, Hat, Hre, Htok⟩
  ihave Hz := (show (iprop(unscopedSems0 c ∗ Pipeline.ownSems0 (Ix := Unit) (Name := ℕ) (U := UU) (Lvl := ℕ) (Val := Elt F) (τ := τ) osem c) : sProp 𝕄) ⊢ zeros c from Entails.of_eq (zeros_eq (F := F) c)) $$ [Hos Hus]
  · isplitl [Hus] <;> iassumption
  ihave Hz' := (sems0_split (F := F) c) $$ Hz
  icases Hz' with ⟨Hv, Hw⟩
  imod (show iprop((bigSep Finset.univ fun k : CK => semVal (kcell c k) 0) ∗ bigSep Finset.univ fun k : CK => roundState ER (ringRd m) (kcell c k) 0)
      ⊢ (|={Set.univ}=> bigSep Finset.univ fun k : CK => iprop(∃ κ : ℕ, cellInv ER (ringRd m) κ (kcell c k)) : sProp 𝕄) from by
        rw [← bigSep_sep']
        exact (bigSep_mono fun k _ => (Rounds.body_intro ER (ringRd m) (kcell c k)).trans inv_alloc).trans (bigSep_fupd _ _)) $$ [Hv Hst] with Hinv
  · isplitl [Hv] <;> iassumption
  imodintro
  isplitl [Hinv]; · iexact Hinv
  isplitl [Hre]; · iexact Hre
  isplitl [Hat Hw]
  · isplitl [Hat]
    · iapply (show _ ⊢ _ from Entails.of_eq (positions_eq (F := F) c)) $$ Hat
    iexact Hw
  iexact Htok

/-! ### The tokens, dealt to the devices that pay with them -/

def ring (k : Fin 3) : Dev nD ≃ Dev nD := ⟨fun c => fwd c k, fun c => bwd c k, fun c => bwd_fwd c k, fun c => fwd_bwd c k⟩
/-- The payer of a duty: the device itself for what it sends, the device behind for the rest. -/
def payer (i : TK) : Dev nD ≃ Dev nD := if i.1.val = 0 ∨ i.1.val = 2 then Equiv.refl _ else ring i.2
def deal : Dev nD × TK ≃ Dev nD × TK :=
  ⟨fun x => (payer x.2 x.1, x.2), fun x => ((payer x.2).symm x.1, x.2), fun x => by simp, fun x => by simp⟩

omit [FloatOps F] in
theorem payToks_eq (c : Dev nD) :
    (bigSep Finset.univ fun i : TK => (dutyTok ER (kcell (payer i c) (tkc i).1) 0 (tkc i).2 : sProp 𝕄)) = payToks c := by
  rw [bigSep_univ_eq_bigSepL [(4, 0), (4, 1), (4, 2), (3, 0), (3, 1), (3, 2), (1, 0), (1, 1), (1, 2), (2, 0), (2, 1), (2, 2), (0, 0), (0, 1), (0, 2)] (by decide +kernel) (by decide +kernel)]
  rfl

omit [FloatOps F] in
theorem toks_around : (bigSep Finset.univ fun c : Dev nD => (toks c : sProp 𝕄)) = bigSep Finset.univ fun c : Dev nD => payToks c := by
  have h := bigSep_univ_equiv deal (fun x : Dev nD × TK => (dutyTok ER (kcell x.1 (tkc x.2).1) 0 (tkc x.2).2 : sProp 𝕄))
  rw [bigSep_univ_prod, bigSep_univ_prod] at h
  refine h.trans (bigSep_congr fun c _ => ?_)
  exact payToks_eq c

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (ringRd m) κ (kcell c k)))
          ∗ (bigSep Finset.univ fun k : CK => reached ER (kcell c k) 0) ∗ (positions c ∗ wzeros c) ∗ toks c) : sProp 𝕄)
      ⊢ bigSep Finset.univ (G' m) := by
  rw [bigSep_sep', bigSep_sep', bigSep_sep' Finset.univ (fun c : Dev nD => (iprop(positions c ∗ wzeros c) : sProp 𝕄)) toks,
    ← bigSep_univ_prod (fun ck : Dev nD × CK => (iprop(∃ κ : ℕ, cellInv ER (ringRd m) κ (kcell ck.1 ck.2)) : sProp 𝕄)),
    ← bigSep_univ_prod (fun ck : Dev nD × CK => (reached ER (kcell ck.1 ck.2) 0 : sProp 𝕄)), toks_around]
  iintro ⟨HI, #HR, Hpos, Htok⟩
  ihave HK := (BI.bigSep_exists_pi Finset.univ (fun (ck : Dev nD × CK) (κ : ℕ) => (cellInv ER (ringRd m) κ (kcell ck.1 ck.2) : sProp 𝕄))) $$ HI
  icases HK with ⟨%K, #HI⟩
  iapply (bigSep_with_persistent (R := records m K) (Φ := fun c : Dev nD => iprop((positions c ∗ wzeros c) ∗ payToks c)) fun c _ => by
    unfold G' ghost
    iintro ⟨#Hr, ⟨Hp, Hw⟩, Ht⟩
    iexists K
    isplitr; · iexact Hr
    isplitl [Hp]; · iexact Hp
    isplitl [Ht]; · iexact Ht
    iexact Hw)
  isplitr
  · unfold records; isplitl; · iexact HI
    iexact HR
  · iapply (show _ ⊢ _ from Entails.of_eq (bigSep_sep' Finset.univ (fun c : Dev nD => (iprop(positions c ∗ wzeros c) : sProp 𝕄)) payToks).symm)
    isplitl [Hpos]; · iexact Hpos
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem kcell_eq_iff {a b : Dev nD} {x y : CK} : Iff (kcell a x = kcell b y) (a = b ∧ x = y) :=
  ⟨fun h => Prod.ext_iff.mp (kcell_injective (a₁ := (a, x)) (a₂ := (b, y)) h), fun h => by rw [h.1, h.2]⟩

omit [FloatOps F] in
theorem Owe_apply (d c : Dev nD) (ck : CK) : ∀ n : ℕ,
    Owe d n (kcell c ck) () = ∑ i ∈ Finset.range n, if ck = tck i then (if d = bwd c ⟨2 - i % 3, by omega⟩ then amt (tck i) else 0) else 0
  | 0 => rfl
  | n + 1 => by
    rw [Finset.sum_range_succ, ← Owe_apply d c ck n]
    show (Owe d n + tallyAt (kcell (tdev d n) (tck n)) () (amt (tck n))) (kcell c ck) () = _
    rw [Pi.add_apply, Finsupp.add_apply, tallyAt_apply]
    congr 1
    by_cases h : ck = tck n
    · rw [if_pos h]
      by_cases hd : d = bwd c ⟨2 - n % 3, by omega⟩
      · rw [if_pos hd, if_pos ⟨kcell_eq_iff.mpr ⟨by rw [hd]; exact (fwd_bwd c _).symm, h⟩, rfl⟩]
      · rw [if_neg hd, if_neg fun h' => hd (by rw [(kcell_eq_iff.mp h'.1).1]; exact (bwd_fwd d _).symm)]
    · rw [if_neg h, if_neg fun h' => h (kcell_eq_iff.mp h'.1).2]

omit [FloatOps F] in
theorem owed_sum (c : Dev nD) (ck : CK) :
    ∑ d : Dev nD, Owe d 9 (kcell c ck) () = ∑ i ∈ Finset.range 9, if ck = tck i then amt (tck i) else 0 := by
  rw [Finset.sum_congr rfl fun d _ => Owe_apply d c ck 9, Finset.sum_comm]
  refine Finset.sum_congr rfl fun i _ => ?_
  by_cases h : ck = tck i
  · simp only [if_pos h]
    rw [Finset.sum_ite_eq' Finset.univ (bwd c ⟨2 - i % 3, by omega⟩) fun _ => amt (tck i), if_pos (Finset.mem_univ _)]
  · simp only [if_neg h]
    exact Finset.sum_const_zero

omit [FloatOps F] in
theorem launch_cell (c : Dev nD) (ck : CK) (n : ℕ) (h : (∑ i ∈ Finset.range 9, if ck = tck i then amt (tck i) else 0) = n) :
    tallyOn (kcell c ck) (launchCredit (Pipeline.owing fun d => Owe d 9) 0 (kcell c ck)) = (tallyAt (kcell c ck) () n : CellTallies nD τ sig Unit) := by
  unfold tallyAt; refine congrArg _ (Finsupp.ext fun u => ?_); cases u
  rw [Pipeline.launchCredit_owing, Finsupp.single_eq_same, owed_sum, h]

omit [FloatOps F] in
theorem sum9 (ck : CK) : (∑ i ∈ Finset.range 9, if ck = tck i then amt (tck i) else 0)
    = (if ck = some (1, 2) then ND else 0) + (if ck = some (1, 1) then ND else 0) + (if ck = some (1, 0) then ND else 0)
      + (if ck = some (3, 2) then NA else 0) + (if ck = some (3, 1) then NA else 0) + (if ck = some (3, 0) then NA else 0)
      + (if ck = none then 1 else 0) + (if ck = none then 1 else 0) + (if ck = none then 1 else 0) := by
  simp only [Finset.sum_range_succ, Finset.sum_range_zero, Nat.zero_add]
  rfl

/-- The credit the launch gives for one counter of the ring. -/
def lcred (c : Dev nD) (ck : CK) : sProp 𝕄 := cred (tallyOn (kcell c ck) (launchCredit (Pipeline.owing fun d => Owe d 9) 0 (kcell c ck)))

omit [FloatOps F] in
theorem credit_eq (ck : CK) (n : ℕ) (c : Dev nD) (h : (∑ i ∈ Finset.range 9, if ck = tck i then amt (tck i) else 0) = n) :
    (lcred c ck : sProp 𝕄) = cred (tallyAt (kcell c ck) () n) := by
  unfold lcred; rw [launch_cell c ck n h]

omit [FloatOps F] in
/-- The credits of the cells of the ring, of all that the launch gives. -/
theorem launch_ring (c : Dev nD) : (Pipeline.launchCred (fun d : Dev nD => Owe d 9) c : sProp 𝕄)
    ⊢ bigSep Finset.univ fun ck : CK => (lcred c ck : sProp 𝕄) := by
  unfold Pipeline.launchCred
  exact (bigSep_subset (Finset.subset_univ (Finset.univ.map ⟨csem, csem_inj⟩))).trans (Entails.of_eq (bigSep_map _))

omit [FloatOps F] in
theorem creds_intro (c : Dev nD) : (Pipeline.launchCred (fun d : Dev nD => Owe d 9) c : sProp 𝕄) ⊢ creds c := by
  refine (launch_ring c).trans ?_
  rw [bigSep_univ_eq_bigSepL [none, some (0, 0), some (0, 1), some (0, 2), some (1, 0), some (1, 1), some (1, 2), some (2, 0), some (2, 1), some (2, 2), some (3, 0), some (3, 1), some (3, 2)] (by decide +kernel) (by decide +kernel)]
  show (iprop(lcred c none ∗ lcred c (some (0, 0)) ∗ lcred c (some (0, 1)) ∗ lcred c (some (0, 2)) ∗ lcred c (some (1, 0)) ∗ lcred c (some (1, 1)) ∗ lcred c (some (1, 2)) ∗ lcred c (some (2, 0)) ∗ lcred c (some (2, 1)) ∗ lcred c (some (2, 2)) ∗ lcred c (some (3, 0)) ∗ lcred c (some (3, 1)) ∗ lcred c (some (3, 2))) : sProp 𝕄) ⊢ creds c
  rw [credit_eq none 3 c (by rw [sum9]; rfl), credit_eq (some (1, 0)) (amt (some (1, 0))) c (by rw [sum9]; simp; rfl), credit_eq (some (3, 0)) (amt (some (3, 0))) c (by rw [sum9]; simp; rfl), credit_eq (some (1, 1)) (amt (some (1, 1))) c (by rw [sum9]; simp; rfl), credit_eq (some (3, 1)) (amt (some (3, 1))) c (by rw [sum9]; simp; rfl), credit_eq (some (1, 2)) (amt (some (1, 2))) c (by rw [sum9]; simp; rfl), credit_eq (some (3, 2)) (amt (some (3, 2))) c (by rw [sum9]; simp; rfl)]
  unfold creds
  iintro ⟨Hb, Ha, Hc, Hd, H10, H11, H12, He, Hf, Hg, H30, H31, H32⟩
  isplitl [Hb]; · iexact Hb
  isplitl [H30]; · iexact H30
  isplitl [H31]; · iexact H31
  isplitl [H32]; · iexact H32
  isplitl [H10]; · iexact H10
  isplitl [H11]; · iexact H11
  iexact H12

end Cert.KernelIdeal.Run

end
-- ==== Proof.KernelIdeal.Main.lean ====
/-
The program's run on the whole mesh: from the launch to the final arrays.
-/
module

public import proofs.«01_k».proof.Proof.KernelIdeal.Ghost
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The right operand's buffer, as launched. -/
def wAll (c : Dev nD) : sProp 𝕄 := iprop((((c : Thread nD τ).loc main_arg1) ↦{fullShare} m ((c : Thread nD τ).loc main_arg1)))

/-- What a device's program starts from, beside its working buffers. -/
def start (c : Dev nD) : sProp 𝕄 := iprop(G' m c ∗ creds c ∗ levAts L lv ∗ wAll m c)
def Φ₀ (c : Dev nD) : sProp 𝕄 := iprop(start m c ∗ scr c)
/-- What it ends with: its counters at zero, the right operand, its working buffers. -/
def Φ₁ (c : Dev nD) : sProp 𝕄 := iprop(zeros c ∗ wAll m c ∗ scr c)

set_option backward.proofsInPublic true in
def dats (_ : Fin 1) (c : Dev nD) : Pipeline.Dat τ (Elt F) Unit ℕ UU ℕ cfg0 c where
  A w := m ((cfg0.win w).arr.view.loc (c : Thread nD τ))
  after w _ := match w with
    | ⟨0, _⟩ => xstg m c
    | ⟨1, _⟩ => O m c
  Φ t := match t with
    | ⟨0, _⟩ => Φ₀ m c
    | ⟨_ + 1, _⟩ => Φ₁ m c
  q _ := fullShare
  owed t := match t with
    | ⟨0, _⟩ => Owe c 9
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = iprop(Φ (0 : Fin 2) ∗ Φ (1 : Fin 2)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (xstg m c) ∗ stg c cc0_stg1_0 (O m c))

/-- The whole program of device `c`, between what the launch gives it and what it gives back. -/
theorem sound_body (c : Dev nD) :
    bodyPre m c ⊢ wp frame (wpE (defs₀ (F := F)) 𝒱₀ (c : Thread nD τ) none) Set.univ
      (cc0_body (F := F) xM (Memref.isWhole_whole _) wM (Memref.isWhole_whole _) oM (Memref.isWhole_whole _) yM (Memref.isWhole_whole _) qM (Memref.isWhole_whole _) vM (Memref.isWhole_whole _) bM (Memref.isWhole_whole _) txM (Memref.isWhole_whole _) rxM (Memref.isWhole_whole _) cc0_scratch6 cc0_scratch7 cc0_scratch8 cc0_scratch9 cc0_scratch10) (fun _ => bodyPost m c) := by
  simp only [cc0_body_eq_skeleton]; unfold cc0_body_skel
  simp only [Prog.bind_ret, Prog.pure_eq_ret, wp_bind]
  unfold bodyPre Φ₀ start G' ghost wzeros wAll Pipeline.Dat.owesAt Pipeline.owesWithin
  iintro ⟨⟨⟨⟨%K, #HR, Hpos, Htok, H0, H1⟩, Hcr, #Hlev, Hw⟩, Hscr⟩, ⟨%W, %hW, HO⟩, ⟨%d0, %g0, %hg0, Hx⟩, ⟨%d1, %g1, %hg1, Hout⟩⟩
  have hx : g0 = xstg m c := by rw [hg0]; unfold Pipeline.Dat.before; rw [if_pos (fetch0_0 t0_0)]; rfl
  subst hx
  iapply (part18 m K c)
  isplitr []
  · isplitr; · iexact HR
    isplitr; · iexact Hlev
    isplitl [HO]
    · unfold owesX; iexists W; iexact HO
    isplitl [Htok]; · iexact Htok
    isplitl [Hpos]; · iexact Hpos
    isplitl [Hcr]; · iexact Hcr
    isplitl [H0]; · iexact H0
    isplitl [H1]; · iexact H1
    isplitl [Hx]; · iexact Hx
    isplitl [Hw]; · iexact Hw
    isplitl [Hscr]; · iexact Hscr
    unfold oPts; iexists g1
    isplitr; · (ipureintro; exact fun i hi => absurd hi (Finset.notMem_empty _))
    iexact Hout
  · iintro ⟨HO, Hz, Hx, Hw, Hscr, Hout⟩
    simp only [wp_ret]
    imodintro
    unfold owesX
    icases HO with ⟨%W', HO⟩
    unfold bodyPost Φ₁ wAll Pipeline.Dat.owesAt Pipeline.owesWithin
    isplitl [Hz Hw Hscr]
    · isplitl [Hz]; · iexact Hz
      isplitl [Hw] <;> iassumption
    isplitl [HO]
    · iexists W'
      isplitr; · (ipureintro; exact fun _ _ => Or.inl trivial)
      iexact HO
    isplitl [Hx]
    · iexists _; isplitr; · (ipureintro; rfl)
      iexact Hx
    iexists _; isplitr; · (ipureintro; rfl)
    iexact Hout

/-- The library's body obligation on device `c`. -/
theorem body_obligation (c : Dev nD) : Pipeline.BodyObligation (dats (F := F) m 0 c) (defs₀ (F := F)) 𝒱₀ () Set.univ := fun t => by
  rw [fin_N0 t]
  rw [bigSep_W, bigSep_W]
  simp only [owns_whole_eq]
  exact sound_body m c

/-! ## The run -/

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred (fun d : Dev nD => Owe d 9) c ∗ prngReg c (ρ c) ∗ G' m c)
      ⊢ |={Set.univ}=> iprop(start m c ∗ emp) := by
  iintro ⟨Hu, Hlev, Hcr, -, HG⟩
  ihave Hc := (creds_intro (F := F) c) $$ Hcr
  ihave Hw := (show (Pipeline.unscopedRestP (Ix := Unit) (Name := ℕ) (U := UU) (Lvl := ℕ) Pipeline.Prefetch.none cfg0.spec c (fun b => m ((c : Thread nD τ).loc b)) : sProp 𝕄) ⊢ wAll m c from
    Entails.of_eq ((Pipeline.unscopedRestP_none _ _ _).trans (unscopedRest0_eq c _))) $$ Hu
  imodintro
  unfold start
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop((unscopedSems0 c ∗ wAll m c) ∗ Pipeline.ownSems0 osem c ∗ Pipeline.scopedRest cfg0.spec c) := by
  rw [show (dats m 0 c).Φ (Fin.last cfg0.N) = Φ₁ m c from rfl, scopedRest0_eq]
  unfold Φ₁ scr
  iintro ⟨Hz, Hw, Hr⟩
  ihave Hz' := (show (zeros c : sProp 𝕄) ⊢ iprop(unscopedSems0 c ∗ Pipeline.ownSems0 (Ix := Unit) (Name := ℕ) (U := UU) (Lvl := ℕ) (Val := Elt F) (τ := τ) osem c) from Entails.of_eq (zeros_eq (F := F) c).symm) $$ Hz
  icases Hz' with ⟨Hu, Ho⟩
  isplitl [Hu Hw]
  · isplitl [Hu] <;> iassumption
  isplitl [Ho]; · iexact Ho
  iexact Hr

theorem stage_low : ∀ (w : Fin cfg0.W) (s : Fin (cfg0.win w).nbuf), ∀ i, i < 9 → lvS (.dma ((cfg0.win w).sem s)) < lvS (csem (tck i)) := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c (.dma ((cfg0.win w).sem s)) 9 (stage_low w s)
    · exact mayWait c (.dma ((cfg0.win w).sem s)) 0 (fun i hi => absurd hi (Nat.not_lt_zero i))

/-- Reading the right operand's buffer and the barrier's counter off the final state. -/
theorem exit_read (c : Dev nD) (s' : Phys nD τ sig (Elt F)) :
    iprop((unscopedSems0 c ∗ wAll m c) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ (SI s' : sProp 𝕄)) := by
  iintro ⟨⟨Hu, Hw⟩, -, HSI⟩
  imod (Pipeline.unscopedSems0_read (X := unscopedSems0 c) (c := c) fupd_intro s') $$ [Hu HSI] with ⟨%h, HSI⟩
  · isplitl [Hu] <;> iassumption
  unfold wAll
  icombine HSI Hw gives %hw
  imodintro
  isplitr
  · ipureintro; exact ⟨h, Buf.eq_of_forall_mem_univ hw⟩
  iexact HSI

/-- What the run leaves: the operands as launched, the result's block, every counter at zero. -/
def QC : PUnit × MemSt nD τ sig (Elt F) → Prop := fun r =>
  (∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)) ∧ r.2.sem = fun _ => 0

theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d : Dev nD => Owe d 9) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ wAll m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := exit_read m)
    (hQ := fun _ h hs => ⟨fun c => ⟨fun w => (h c).1 w, (h c).2.2.2⟩, sem_eq_zero hs fun c => (h c).2.2.1⟩)

/-! ## The arrays after the run -/

theorem arr_x (c : Dev nD) : (dats m 0 c).arrAt (0 : Fin 2) cfg0.N = m ((c : Thread nD τ).loc main_arg0) :=
  (dats (F := F) m 0 c).arrAt_in (0 : Fin 2) rfl _

omit [FloatOps F] in
theorem read_res (c : Dev nD) (f : Buf (Elt F) ((c : Thread nD τ).loc main_v1)) :
    (win0_1.blk t0_0).view.read (Elt F) f = f :=
  Memref.read_access_unit_zero (Elt F) main_v1
    (show (fun a => (win0_1.index t0_0) a * main_v1.ty.shape.size a) = fun _ => 0 from
      funext fun a => by fin_cases a <;> decide) (fun a => by fin_cases a <;> decide) f
omit [FloatOps F] in
theorem read_arg (c : Dev nD) (f : Buf (Elt F) ((c : Thread nD τ).loc main_arg0)) :
    (win0_0.blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f

theorem arr_out (c : Dev nD) : (dats m 0 c).arrAt (1 : Fin 2) cfg0.N = O m c := by
  have hw : ((cfg0.win 1).blk t0_0).view.read (Elt F) ((dats m 0 c).arrAt (1 : Fin 2) cfg0.N)
      = (dats m 0 c).flushed (1 : Fin 2) t0_0 := by
    rw [show cfg0.N = t0_0.val + 1 from rfl, (dats m 0 c).arrAt_succ (1 : Fin 2) t0_0, flush0_1, if_pos rfl]
    exact View.read_write_univ _ _
  exact (read_res c _).symm.trans (hw.trans (funext fun _ => rfl))

/-- On any mesh state with zero counters, every execution ends with the operands as they were, with device `c`'s
    result at `O m c`, and with every counter at zero. -/
theorem run_value : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = O m c) ∧ r.2.sem = fun _ => 0) :=
  (θ_run defs _ _).mono (fun r h => ⟨fun c => ⟨((h.1 c).1 (0 : Fin 2)).trans (arr_x m c), (h.1 c).2, ((h.1 c).1 (1 : Fin 2)).trans (arr_out m c)⟩, h.2⟩) (run_main m ρ)

end Cert.KernelIdeal.Run

end
-- ==== Proof.Value.Scalar.lean ====
/-
  The one equation between extended reals on which the two programs agree. The kernel multiplies an element of the
  product by `448 / a`, the reference divides it by `a / 448`, where `a` is the largest absolute value of the product;
  both clip to `[-448, 448]` and multiply by `a / 448`. The results are equal whenever the element's absolute value
  is at most `a`, whatever `a` is: zero, a positive real or infinity.
-/
module

public import Idealize.ShloMosaic.PureOps.Ideal
public import Idealize.ShloMosaic.Lib.IdealHost

@[expose] public section

noncomputable section

namespace Cert.Value

open Idealize.ShloMosaic

/-- The constant 448. -/
theorem ofBits_448 : Ideal.ofBits .f32 0x43E00000#32 = ((448 : ℝ) : EReal) := by
  simp [Ideal.ofBits, Ideal.ieee, -EReal.coe_mul]; norm_num
/-- The constant -448. -/
theorem ofBits_neg_448 : Ideal.ofBits .f32 0xC3E00000#32 = ((-448 : ℝ) : EReal) := by
  simp [Ideal.ofBits, Ideal.ieee, -EReal.coe_mul, -EReal.coe_neg]; norm_num
/-- The constant from which a maximum starts. -/
theorem ofBits_bot : Ideal.ofBits .f32 0xFF800000#32 = ⊥ := by
  simp [Ideal.ofBits, Ideal.ieee, -EReal.coe_mul, -EReal.coe_neg]

/-- The absolute value, as the programs take it. -/
def mag (y : EReal) : EReal := max y (-y)
/-- It is not negative. -/
theorem mag_nonneg (y : EReal) : 0 ≤ mag y := by
  unfold mag
  rcases le_total 0 y with h | h
  · exact le_max_of_le_left h
  · exact le_max_of_le_right (by simpa using EReal.neg_le_neg_iff.mpr h)

/-- Clipping to `[-448, 448]`. -/
def clip (z : EReal) : EReal := min ((448 : ℝ) : EReal) (max ((-448 : ℝ) : EReal) z)
theorem clip_zero : clip 0 = 0 := by
  unfold clip
  rw [max_eq_right, min_eq_right]
  · exact_mod_cast (by norm_num : (0 : ℝ) ≤ 448)
  · exact_mod_cast (by norm_num : (-448 : ℝ) ≤ 0)

/-- The kernel's element: quantised by a product with `448 / a`, then scaled back. -/
def deq (a y : EReal) : EReal := clip (y * Ideal.div ((448 : ℝ) : EReal) a) * Ideal.div a ((448 : ℝ) : EReal)

theorem div_448 (a : EReal) : Ideal.div a ((448 : ℝ) : EReal) = a * (((448 : ℝ)⁻¹ : ℝ) : EReal) := by
  unfold Ideal.div
  rw [if_neg (by exact_mod_cast (by norm_num : (448 : ℝ) ≠ 0)), EReal.coe_inv]

/-- THE EQUATION: the reference's quotient by `a / 448` gives the same element. -/
theorem deq_eq (a y : EReal) (h : mag y ≤ a) :
    deq a y = clip (Ideal.div y (Ideal.div a ((448 : ℝ) : EReal))) * Ideal.div a ((448 : ℝ) : EReal) := by
  unfold deq
  have h0 : 0 ≤ a := (mag_nonneg y).trans h
  induction a with
  | bot => exact absurd h0 (by simp)
  | top =>
    have e : Ideal.div (⊤ : EReal) ((448 : ℝ) : EReal) = ⊤ := by
      rw [div_448]; exact EReal.top_mul_coe_of_pos (by norm_num)
    rw [e]
    unfold Ideal.div
    simp [clip_zero]
  | coe a =>
    have ha : 0 ≤ a := by exact_mod_cast h0
    rcases ha.eq_or_lt with rfl | hp
    · have e : Ideal.div ((0 : ℝ) : EReal) ((448 : ℝ) : EReal) = 0 := by rw [div_448]; simp
      rw [e, mul_zero, mul_zero]
    · congr 2
      have e : Ideal.div (a : EReal) ((448 : ℝ) : EReal) = ((a * 448⁻¹ : ℝ) : EReal) := by rw [div_448, EReal.coe_mul]
      have hne : ((a : ℝ) : EReal) ≠ 0 := by exact_mod_cast hp.ne'
      have hne' : ((a * 448⁻¹ : ℝ) : EReal) ≠ 0 := by
        have : (a * 448⁻¹ : ℝ) ≠ 0 := by positivity
        exact_mod_cast this
      rw [e]
      unfold Ideal.div
      rw [if_neg hne, if_neg hne', ← EReal.coe_inv, ← EReal.coe_inv, ← EReal.coe_mul]
      congr 2
      rw [mul_inv, inv_inv, mul_comm]

end Cert.Value

end
-- ==== Proof.Value.Blocks.lean ====
/-
  What the kernel's arithmetic is on extended reals: the product of one block of columns at an index is the sum over
  the contracted coordinate; a maximum taken by a reduction is bounded by exactly the bounds of its elements; the running
  maximum over eight blocks is bounded by exactly the bounds of all of a device's products' absolute values.
-/
module

public import proofs.«01_k».proof.Proof.KernelIdeal.Main
public import proofs.«01_k».proof.Proof.Value.Scalar
public import Idealize.ShloMosaic.PureOps.Ideal.Laws
public import Idealize.ShloMosaic.Lib.MatmulPlain
public import Idealize.ShloMosaic.Lib.ValueLayout
public import Idealize.ShloMosaic.Lib.ValueIdx
public import Idealize.ShloMosaic.Lib.Pipeline.Value

@[expose] public section

set_option maxRecDepth 16384

noncomputable section

namespace Cert.Value

open Cert.KernelIdeal Cert.KernelIdeal.Gen Cert.KernelIdeal.Run
open Idealize.ShloMosaic Idealize.ShloMosaic.TcCoe Idealize.ShloMosaic.ValueIdx
open scoped BigOperators

variable (m : (ℓ : Loc nD τ sig) → Buf (Elt Ideal) ℓ)

/-! ## Maxima -/

theorem fold_le {ι : Type} (s : Finset ι) (f : ι → EReal) (z : EReal) :
    s.fold (FloatOps.maximumf (F := Ideal) (φ := .f32)) (⊥ : EReal) f ≤ z ↔ ∀ i ∈ s, f i ≤ z := by
  have e : s.fold (FloatOps.maximumf (F := Ideal) (φ := .f32)) (⊥ : EReal) f = s.fold max (⊥ : EReal) f := rfl
  rw [e, Finset.fold_max_le]
  simp

theorem idx1_elim (i j : S1.Idx) : i = j := by
  funext a
  match a with
  | ⟨0, _⟩ => exact Subsingleton.elim (α := Fin 1) (i 0) (j 0)

/-- A maximum over every element, read out of the one-element array it is returned in. -/
theorem total_le {s : Shape} {axes : List (Fin s.rank)} (src : FVec Ideal s .f32) (h : s.Reduces axes S1)
    (hφ : FKind.Formats .f32) (hacc : (0xFF800000#32 : BitVec 32) = FKind.maximumf.neutral .f32 hφ) (z : EReal) :
    extractAt ![0, 0, 0] (shapeCast S1x1x1 (multiReduction .maximumf axes S1 src 0xFF800000#32 h hφ hacc) shapeCasts_S1_S1x1x1) inpos_S1x1x1_p0_0_0 ≤ z
      ↔ ∀ i, src i ≤ z := by
  unfold extractAt shapeCast
  rw [multiReduction_maximumf_eq_fold]
  rw [show (FloatOps.ofBits (F := Ideal) .f32 0xFF800000#32 : EReal) = ⊥ from ofBits_bot, fold_le]
  constructor
  · intro H i; exact H i (Finset.mem_filter.mpr ⟨Finset.mem_univ _, idx1_elim _ _⟩)
  · intro H i _; exact H i

/-- The largest absolute value of a block, as the kernel takes it. -/
def bmax {F : FTy → Type} [FloatOps F] (v : FVec F S1024x1024 .f32) : F .f32 :=
  extractAt ![0, 0, 0] (shapeCast S1x1x1 (multiReduction .maximumf [1, 2] S1
    (shapeCast S1x1024x1024 (absf v) shapeCasts_S1024x1024_S1x1024x1024) 0xFF800000#32 reduces_S1x1024x1024_S1 (.inl rfl) rfl)
    shapeCasts_S1_S1x1x1) inpos_S1x1x1_p0_0_0
theorem bmax_le (v : FVec Ideal S1024x1024 .f32) (z : EReal) : bmax (F := Ideal) v ≤ z ↔ ∀ r j : Fin 1024, mag (v (ix2 r j)) ≤ z := by
  refine (total_le _ reduces_S1x1024x1024_S1 (.inl rfl) rfl z).trans ?_
  constructor
  · intro H r j
    have h := H (ix3 0 r j)
    rw [shapeCast_ab_1ab_apply] at h
    exact h
  · intro H i
    obtain ⟨r, j, rfl⟩ : ∃ r j : Fin 1024, i = ix3 (0 : Fin 1) r j :=
      ⟨i 1, i 2, (eq_ix3 (n0 := 1) (n1 := 1024) (n2 := 1024) i).trans
        (congrArg (fun u : Fin 1 => ix3 (n1 := 1024) (n2 := 1024) u (i 1) (i 2)) (Subsingleton.elim _ _))⟩
    exact le_of_eq_of_le (shapeCast_ab_1ab_apply (a := 1024) (b := 1024) _ _ _ r j) (H r j)

/-- A received maximum, as the kernel takes it out of the buffer it arrived in. -/
def rmax {F : FTy → Type} [FloatOps F] (v : Vec F S1x8x128 .f32) : F .f32 :=
  extractAt ![0, 0, 0] (shapeCast S1x1x1 (multiReduction (F := F) (φ := .f32) .maximumf [1, 2] S1
    (shapeCast S1x8x128 (shapeCast S8x128 (v : FVec F S1x8x128 .f32) shapeCasts_S1x8x128_S8x128) shapeCasts_S8x128_S1x8x128) 0xFF800000#32 reduces_S1x8x128_S1 (.inl rfl) rfl)
    shapeCasts_S1_S1x1x1) inpos_S1x1x1_p0_0_0
/-- Where it holds one value everywhere, that value. -/
theorem rmax_le (v : FVec Ideal S1x8x128 .f32) (a : EReal) (h : ∀ i, v i = a) (z : EReal) : rmax (F := Ideal) v ≤ z ↔ a ≤ z := by
  refine (total_le _ reduces_S1x8x128_S1 (.inl rfl) rfl z).trans ?_
  constructor
  · intro H
    have h' := H (ix3 0 0 0)
    unfold shapeCast at h'
    rw [h] at h'
    exact h'
  · intro H i
    unfold shapeCast
    rw [h]
    exact H

/-! ## The product of a block of columns -/

/-- One block's product, as the kernel forms it. -/
theorem prod_apply (v : FVec Ideal S1024x4096 .bf16) (w : Vec Ideal S1x4096x1024 .bf16) (r j : Fin 1024) :
    k0_pay2 v w (ix2 r j) = ∑ k : Fin 4096, (v (ix2 r k) * w (ix3 0 k j) : EReal) := by
  unfold k0_pay2
  simp only [matmul]
  refine (Ideal.matmul_plain_apply (M := 1024) (K := 4096) (N := 1024) none v _ _ r j).trans ?_
  have z : (constant S1024x1024 .f32 0x00000000#32 : FVec Ideal S1024x1024 .f32) (ix2 r j) = (0 : EReal) := Ideal.ofBits_zero_f32
  rw [z, zero_add]
  refine Finset.sum_congr rfl fun k _ => ?_
  rw [shapeCast_1ab_ab_apply]

/-- The arguments on a device. -/
abbrev xA (c : Dev nD) : FVec Ideal S1024x4096 .bf16 := m ((c : Thread nD τ).loc main_arg0)
abbrev wA (c : Dev nD) : FVec Ideal S4096x8192 .bf16 := m ((c : Thread nD τ).loc main_arg1)

/-- The device's rows of the product, as sums over the arguments. -/
theorem Y_apply (c : Dev nD) (r : Fin 1024) (j : Fin 8192) :
    Y m c (ix2 r j) = ∑ k : Fin 4096, (xA m c (ix2 r k) * wA m c (ix2 k j) : EReal) := by
  unfold Y k0_pay3
  dsimp only
  rw [shapeCast_self, prod_apply]
  refine Finset.sum_congr rfl fun k _ => ?_
  have hX : X m c = m ((c : Thread nD τ).loc main_arg0) := by
    unfold X k0_pay1
    dsimp only
    rw [shapeCast_self]
    exact read_arg c _
  rw [hX]
  unfold W wC
  congr 2
  refine congrArg (ix2 k) (Fin.ext ?_)
  show 1024 * (j.val / 1024) + j.val % 1024 = j.val
  omega

/-- A block's product is the product's block. -/
theorem prod_Y (c : Dev nD) (b : Fin 8) (r j : Fin 1024) :
    k0_pay2 (X m c) (W m c b) (ix2 r j) = Y m c (ix2 r ⟨1024 * b.val + j.val, by omega⟩) := by
  unfold Y k0_pay3
  dsimp only
  rw [shapeCast_self]
  have hk : yKey (ix2 r (⟨1024 * b.val + j.val, by omega⟩ : Fin 8192)) = b := Fin.ext (by
    show (1024 * b.val + j.val) / 1024 = b.val
    omega)
  rw [hk]
  refine congrArg (k0_pay2 (X m c) (W m c b)) (congrArg (ix2 r) (Fin.ext ?_))
  show j.val = (1024 * b.val + j.val) % 1024
  omega

end Cert.Value

end
-- ==== Proof.Value.Maximum.lean ====
/-
  The overall maximum: each device's running maximum over its eight blocks is bounded by exactly the bounds of its rows'
  absolute values, and with the maxima it receives from the three other devices it is the maximum of the whole product,
  the same on every device.
-/
module

public import proofs.«01_k».proof.Proof.Value.Blocks

@[expose] public section

set_option maxRecDepth 16384

noncomputable section

namespace Cert.Value

open Cert.KernelIdeal Cert.KernelIdeal.Gen Cert.KernelIdeal.Run
open Idealize.ShloMosaic Idealize.ShloMosaic.TcCoe Idealize.ShloMosaic.ValueIdx
open scoped BigOperators

variable (m : (ℓ : Loc nD τ sig) → Buf (Elt Ideal) ℓ)

/-! The printed steps of the running maximum, each from the running maximum before it. -/

variable {F : FTy → Type} [FloatOps F]

theorem step0 (v : FVec F S1024x4096 .bf16) (w : Vec F S1x4096x1024 .bf16) :
    k0_pay4 v w = Scalar.maximumf (Scalar.ofBits .f32 0x00000000#32) (bmax (k0_pay2 v w)) := by
  unfold k0_pay4 bmax; rfl
theorem step12 (v : FVec F S1024x4096 .bf16) (a : F .f32) (y : FVec F S1024x1024 .f32) (w : Vec F S1x4096x1024 .bf16) :
    k0_pay9 v a y w = Scalar.maximumf (Scalar.maximumf a (bmax y)) (bmax (k0_pay7 v w)) := by
  unfold k0_pay9 bmax; rfl
theorem step3 (v : FVec F S1024x4096 .bf16) (a : F .f32) (w : Vec F S1x4096x1024 .bf16) :
    k0_pay12 v a w = Scalar.maximumf a (bmax (k0_pay10 v w)) := by
  unfold k0_pay12 bmax; rfl
theorem step4 (v : FVec F S1024x4096 .bf16) (a : F .f32) (w : Vec F S1x4096x1024 .bf16) :
    k0_pay15 v a w = Scalar.maximumf a (bmax (k0_pay13 v w)) := by
  unfold k0_pay15 bmax; rfl
theorem step56 (v : FVec F S1024x4096 .bf16) (a : F .f32) (w w' : Vec F S1x4096x1024 .bf16) :
    k0_pay21 v a (k0_pay18 v w) w' = Scalar.maximumf (Scalar.maximumf a (bmax (k0_pay16 v w))) (bmax (k0_pay19 v w')) := by
  unfold k0_pay21 k0_pay18 bmax; rfl
theorem step7 (v : FVec F S1024x4096 .bf16) (a : F .f32) (w : Vec F S1x4096x1024 .bf16) :
    k0_pay24 v a w = Scalar.maximumf a (bmax (k0_pay22 v w)) := by
  unfold k0_pay24 bmax; rfl
/-- The overall maximum, from a device's own and the three received. -/
theorem step_all (a : F .f32) (r0 r1 r2 : Vec F S1x8x128 .f32) :
    k0_pay26 a r0 r1 r2 = Scalar.maximumf (Scalar.maximumf (Scalar.maximumf a (rmax r0)) (rmax r1)) (rmax r2) := by
  unfold k0_pay26 rmax; rfl
theorem scalar_max (a b : Ideal .f32) : Scalar.maximumf a b = max a b := (rfl)
theorem scalar_zero : (Scalar.ofBits .f32 0x00000000#32 : Ideal .f32) = (0 : EReal) := Ideal.ofBits_zero_f32

/-- The printed products are one function. -/
theorem same_prod (v : FVec Ideal S1024x4096 .bf16) (w : Vec Ideal S1x4096x1024 .bf16) :
    k0_pay5 v w = k0_pay2 v w ∧ k0_pay7 v w = k0_pay2 v w ∧ k0_pay10 v w = k0_pay2 v w ∧ k0_pay13 v w = k0_pay2 v w
      ∧ k0_pay16 v w = k0_pay2 v w ∧ k0_pay19 v w = k0_pay2 v w ∧ k0_pay22 v w = k0_pay2 v w := by
  unfold k0_pay5 k0_pay7 k0_pay10 k0_pay13 k0_pay16 k0_pay19 k0_pay22 k0_pay2
  exact ⟨rfl, rfl, rfl, rfl, rfl, rfl, rfl⟩

/-- The running maximum at the end is over the eight blocks, from zero. -/
theorem amL_eq (c : Dev nD) : amL m c =
    max (max (max (max (max (max (max (max (0 : EReal) (bmax (F := Ideal) (k0_pay2 (X m c) (W m c 0))))
      (bmax (F := Ideal) (k0_pay2 (X m c) (W m c 1)))) (bmax (F := Ideal) (k0_pay2 (X m c) (W m c 2)))) (bmax (F := Ideal) (k0_pay2 (X m c) (W m c 3))))
      (bmax (F := Ideal) (k0_pay2 (X m c) (W m c 4)))) (bmax (F := Ideal) (k0_pay2 (X m c) (W m c 5)))) (bmax (F := Ideal) (k0_pay2 (X m c) (W m c 6))))
      (bmax (F := Ideal) (k0_pay2 (X m c) (W m c 7))) := by
  unfold amL am7 am5 am4 am3 am1
  rw [step7, step56, step4, step3, step12, step0]
  simp only [fun v w => (same_prod v w).1, fun v w => (same_prod v w).2.1, fun v w => (same_prod v w).2.2.1,
    fun v w => (same_prod v w).2.2.2.1, fun v w => (same_prod v w).2.2.2.2.1, fun v w => (same_prod v w).2.2.2.2.2.1,
    fun v w => (same_prod v w).2.2.2.2.2.2, scalar_max, scalar_zero]

/-- A device's maximum is bounded by exactly the bounds of its products' absolute values that are not negative. -/
theorem amL_le (c : Dev nD) (z : EReal) : amL m c ≤ z ↔ 0 ≤ z ∧ ∀ (r : Fin 1024) (j : Fin 8192), mag (Y m c (ix2 r j)) ≤ z := by
  have hb : ∀ b : Fin 8, bmax (F := Ideal) (k0_pay2 (X m c) (W m c b)) ≤ z
      ↔ ∀ r j : Fin 1024, mag (Y m c (ix2 r ⟨1024 * b.val + j.val, by omega⟩)) ≤ z := fun b => by
    rw [bmax_le]
    exact forall_congr' fun r => forall_congr' fun j => by rw [prod_Y]
  rw [amL_eq]
  simp only [max_le_iff, hb]
  constructor
  · rintro ⟨⟨⟨⟨⟨⟨⟨⟨h0, g0⟩, g1⟩, g2⟩, g3⟩, g4⟩, g5⟩, g6⟩, g7⟩
    refine ⟨h0, fun r j => ?_⟩
    have key : ∀ b : Fin 8, ∀ r j : Fin 1024, mag (Y m c (ix2 r ⟨1024 * b.val + j.val, by omega⟩)) ≤ z := fun b =>
      match b with
      | ⟨0, _⟩ => g0
      | ⟨1, _⟩ => g1
      | ⟨2, _⟩ => g2
      | ⟨3, _⟩ => g3
      | ⟨4, _⟩ => g4
      | ⟨5, _⟩ => g5
      | ⟨6, _⟩ => g6
      | ⟨7, _⟩ => g7
    have h := key ⟨j.val / 1024, by omega⟩ r ⟨j.val % 1024, by omega⟩
    have e : (⟨1024 * (j.val / 1024) + j.val % 1024, by omega⟩ : Fin 8192) = j := Fin.ext (by
      show 1024 * (j.val / 1024) + j.val % 1024 = j.val
      omega)
    rw [e] at h
    exact h
  · rintro ⟨h0, h⟩
    exact ⟨⟨⟨⟨⟨⟨⟨⟨h0, fun r j => h _ _⟩, fun r j => h _ _⟩, fun r j => h _ _⟩, fun r j => h _ _⟩, fun r j => h _ _⟩,
      fun r j => h _ _⟩, fun r j => h _ _⟩, fun r j => h _ _⟩

/-- The overall maximum as device `c` finds it: its own and the three it received. -/
def amAll (c : Dev nD) : EReal := k0_pay26 (amL m c) (rxv m c 0) (rxv m c 1) (rxv m c 2)

theorem amAll_eq (c : Dev nD) :
    amAll m c = max (max (max (amL m c) (rmax (F := Ideal) (rxv m c 0))) (rmax (F := Ideal) (rxv m c 1))) (rmax (F := Ideal) (rxv m c 2)) := by
  unfold amAll
  rw [step_all]
  simp only [scalar_max]

theorem sent_apply (v : FVec Ideal S1024x4096 .bf16) (a : Ideal .f32) (w : Vec Ideal S1x4096x1024 .bf16) (i : S8x128.Idx) :
    k0_pay25 v a w i = k0_pay24 v a w := by
  unfold k0_pay25
  generalize k0_pay24 v a w = x
  exact (congrFun (shapeCast_self (broadcast S8x128 x) shapeCasts_S8x128_S8x128) i).trans (broadcast_apply x i)
theorem rxv_apply (c : Dev nD) (k : Fin 3) (i : S1x8x128.Idx) : rxv m c k i = amL m (bwd c k) := by
  unfold rxv tx amL
  exact sent_apply _ _ _ _

/-- Every device is `c` or one of the three behind it. -/
theorem dev_cases : ∀ c d : Dev nD, d = c ∨ ∃ k : Fin 3, d = bwd c k := by decide

theorem amAll_le (c : Dev nD) (z : EReal) :
    amAll m c ≤ z ↔ 0 ≤ z ∧ ∀ (d : Dev nD) (r : Fin 1024) (j : Fin 8192), mag (Y m d (ix2 r j)) ≤ z := by
  rw [amAll_eq]
  simp only [max_le_iff, rmax_le _ _ (rxv_apply m c _), amL_le]
  constructor
  · rintro ⟨⟨⟨⟨h0, g⟩, -, g0⟩, -, g1⟩, -, g2⟩
    refine ⟨h0, fun d => ?_⟩
    rcases dev_cases c d with rfl | ⟨k, rfl⟩
    · exact g
    · exact match k with
        | ⟨0, _⟩ => g0
        | ⟨1, _⟩ => g1
        | ⟨2, _⟩ => g2
  · rintro ⟨h0, g⟩
    exact ⟨⟨⟨⟨h0, g _⟩, h0, g _⟩, h0, g _⟩, h0, g _⟩

/-- So it is the same on every device. -/
theorem amAll_const (c d : Dev nD) : amAll m c = amAll m d :=
  eq_of_forall_ge_iff fun z => by rw [amAll_le, amAll_le]

end Cert.Value

end
-- ==== Proof.Value.Result.lean ====
/-
  The kernel's result at an index: the product's element, quantised by the overall maximum and scaled back.
-/
module

public import proofs.«01_k».proof.Proof.Value.Maximum

@[expose] public section

set_option maxRecDepth 16384

noncomputable section

namespace Cert.Value

open Cert.KernelIdeal Cert.KernelIdeal.Gen Cert.KernelIdeal.Run
open Idealize.ShloMosaic Idealize.ShloMosaic.TcCoe Idealize.ShloMosaic.ValueIdx
open scoped BigOperators

variable (m : (ℓ : Loc nD τ sig) → Buf (Elt Ideal) ℓ)

/-- A block quantised by `g`, at an index. -/
theorem quant_apply (g : Ideal .f32) (y : Vec Ideal S1024x2048 .f32) (r : Fin 1024) (j : Fin 2048) :
    k0_pay29 g y (ix3 (0 : Fin 1) r j) = clip (y (ix2 r j) * g) := by
  unfold k0_pay29
  refine (shapeCast_ab_1ab_apply (a := 1024) (b := 2048) _ _ _ r j).trans ?_
  have e1 : (Scalar.ofBits .f32 0x43E00000#32 : Ideal .f32) = ((448 : ℝ) : EReal) := ofBits_448
  have e2 : (Scalar.ofBits .f32 0xC3E00000#32 : Ideal .f32) = ((-448 : ℝ) : EReal) := ofBits_neg_448
  rw [e1, e2]
  rfl
/-- A block scaled back by `g`, at an index. -/
theorem scale_apply (g : Ideal .f32) (q : Vec Ideal S1x1024x2048 .fp8e4m3) (r : Fin 1024) (j : Fin 2048) :
    k0_pay33 g q (ix2 r j) = (q (ix3 (0 : Fin 1) r j) * g : EReal) := by
  unfold k0_pay33
  have e : shapeCast S1024x2048 q shapeCasts_S1x1024x2048_S1024x2048 (ix2 r j) = q (ix3 (0 : Fin 1) r j) :=
    shapeCast_1ab_ab_apply (a := 1024) (b := 2048) _ _ r j
  rw [← e]
  rfl

/-- The two factors, as printed. -/
theorem pay27_eq {F : FTy → Type} [FloatOps F] (a : F .f32) (r0 r1 r2 : Vec F S1x8x128 .f32) :
    k0_pay27 a r0 r1 r2 = Scalar.divf (Scalar.ofBits .f32 0x43E00000#32) (k0_pay26 a r0 r1 r2) := by
  unfold k0_pay27; with_reducible rfl
theorem pay28_eq {F : FTy → Type} [FloatOps F] (a : F .f32) (r0 r1 r2 : Vec F S1x8x128 .f32) :
    k0_pay28 a r0 r1 r2 = Scalar.divf (k0_pay26 a r0 r1 r2) (Scalar.ofBits .f32 0x43E00000#32) := by
  unfold k0_pay28; with_reducible rfl
theorem scalar_div (a b : Ideal .f32) : Scalar.divf a b = Ideal.div a b := (rfl)
theorem scalar_448 : (Scalar.ofBits .f32 0x43E00000#32 : Ideal .f32) = ((448 : ℝ) : EReal) := ofBits_448

/-- The two factors. -/
theorem inv_eq (c : Dev nD) : Run.inv m c = Ideal.div ((448 : ℝ) : EReal) (amAll m c) := by
  unfold Run.inv amAll
  rw [pay27_eq, scalar_div, scalar_448]
theorem scl_eq (c : Dev nD) : scl m c = Ideal.div (amAll m c) ((448 : ℝ) : EReal) := by
  unfold scl amAll
  rw [pay28_eq, scalar_div, scalar_448]

theorem col_lt (c : Dev nD) (j : Fin 2048) : 2048 * c.val + j.val < 8192 := by
  have : c.val < 4 := c.isLt
  omega

/-- A quantised element. -/
theorem Q_apply (c d : Dev nD) (r : Fin 1024) (j : Fin 2048) :
    Q m d (ix3 c r j) = clip (Y m d (ix2 r ⟨2048 * c.val + j.val, col_lt c j⟩) * Ideal.div ((448 : ℝ) : EReal) (amAll m d)) := by
  have h : Q m d (ix3 c r j) = k0_pay29 (Run.inv m d) (Ysl m d c) (ix3 (0 : Fin 1) r j) := by
    unfold Q
    with_reducible rfl
  have hy : Ysl m d c (ix2 r j) = Y m d (ix2 r ⟨2048 * c.val + j.val, col_lt c j⟩) := by
    unfold Ysl
    with_reducible rfl
  rw [h, quant_apply, hy, inv_eq]

/-- The result on device `c`: its columns of the product, the rows of all four devices, quantised and scaled back. -/
theorem O_apply (c : Dev nD) (r : Fin 4096) (j : Fin 2048) :
    O m c (ix2 r j) = deq (amAll m c)
      (Y m (⟨r.val / 1024, by show r.val / 1024 < 4; omega⟩ : Dev nD) (ix2 ⟨r.val % 1024, by omega⟩ ⟨2048 * c.val + j.val, col_lt c j⟩)) := by
  have h : O m c (ix2 r j) = k0_pay33 (scl m c) (qrow m c (⟨r.val / 1024, by show r.val / 1024 < 4; omega⟩ : Dev nD))
      (ix2 (⟨r.val % 1024, by omega⟩ : Fin 1024) j) := by
    unfold O
    with_reducible rfl
  rw [h, scale_apply, scl_eq]
  generalize (⟨r.val / 1024, by show r.val / 1024 < 4; omega⟩ : Dev nD) = d
  generalize (⟨r.val % 1024, by omega⟩ : Fin 1024) = r'
  have hq : qrow m c d (ix3 (0 : Fin 1) r' j) = Q m d (ix3 c r' j) := by
    unfold qrow
    with_reducible rfl
  rw [hq, Q_apply, amAll_const m d c]
  unfold deq
  with_reducible rfl

end Cert.Value

end
-- ==== Proof.Value.RefHost.lean ====
/-
  What the reference's host operations leave for its last step: the quantised product and the scale, as functions of
  the arguments.
-/
module

public import proofs.«01_k».proof.Proof.Gen.ReferenceIdeal
public import proofs.«01_k».proof.Proof.Gen.ReferenceIdeal.Launch
public import proofs.«01_k».proof.Proof.Gen.ReferenceIdeal.Points
public import proofs.«01_k».proof.Proof.Gen.ReferenceIdeal.Frame

@[expose] public section

set_option maxRecDepth 16384

noncomputable section

namespace Cert.RefValue

open Cert.ReferenceIdeal Cert.ReferenceIdeal.Gen
open Idealize.ShloMosaic Idealize.ShloMosaic.TcCoe

variable {F : FTy → Type} [FloatOps F]

/-- The product. -/
def prod (a : FVec F S4096x4096 .bf16) (b : FVec F S4096x8192 .bf16) : FVec F S4096x8192 .f32 :=
  Host.dotGeneral dot_S4096x4096_S4096x8192_S4096x8192_1_0_0_1_n_n none a b
/-- Its largest absolute value. -/
def amax (p : FVec F S4096x8192 .f32) : FVec F S_ .f32 :=
  Host.reduce FloatOps.maximumf (Host.absf p) (constant S_ .f32 0xFF800000#32) reducesTo_S4096x8192_S_d0_1 h_S_
/-- The scale. -/
def scale (p : FVec F S4096x8192 .f32) : FVec F S_ .f32 := Host.divf (amax p) (constant S_ .f32 0x43E00000#32)
/-- The quantised product. -/
def quant (p : FVec F S4096x8192 .f32) : FVec F S4096x8192 .fp8e4m3 :=
  Host.convertf .fp8e4m3 (minimumf (broadcastInDim S4096x8192 ![] bcast_S_S4096x8192 (constant S_ .f32 0x43E00000#32))
    (maximumf (broadcastInDim S4096x8192 ![] bcast_S_S4096x8192 (constant S_ .f32 0xC3E00000#32))
      (Host.divf p (broadcastInDim S4096x8192 ![] bcast_S_S4096x8192 (scale p)))))

variable (m : (ℓ : Loc nD τ sig) → Buf (Elt F) ℓ)

/-- The arguments. -/
abbrev argA (c : Dev nD) : FVec F S4096x4096 .bf16 := m ((c : Thread nD τ).loc main_arg0)
abbrev argB (c : Dev nD) : FVec F S4096x8192 .bf16 := m ((c : Thread nD τ).loc main_arg1)

/-- The last step's first operand. -/
theorem V_q (c : Dev nD) : V m c main_v7 = quant (prod (argA m c) (argB m c)) := by
  unfold quant scale amax prod
  simp only [V, hostOps0, hostOps0_1, hostOps0_2, List.flatten_cons, List.flatten_nil, List.cons_append, List.nil_append, List.append_nil]
  after_results
  simp only [StableHlo.TRef.ofBuf, StableHlo.TRef.toBuf, cast_cast, cast_eq, id]
/-- The last step's second operand. -/
theorem V_s (c : Dev nD) : V m c main_v8 = shapeCast S1x1 (scale (prod (argA m c) (argB m c))) shapeCasts_S_S1x1 := by
  unfold scale amax prod
  simp only [V, hostOps0, hostOps0_1, hostOps0_2, List.flatten_cons, List.flatten_nil, List.cons_append, List.nil_append, List.append_nil]
  after_results
  rfl

end Cert.RefValue

end
-- ==== Proof.Value.RefRun.lean ====
/-
  The reference's result after its run: its last step's store over the quantised product and the scale.
-/
module

public import proofs.«01_k».proof.Proof.Value.RefHost
public import Idealize.ShloMosaic.Lib.Pipeline.Value

@[expose] public section

set_option maxRecDepth 16384

noncomputable section

namespace Cert.RefValue

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The last step has no grid: each window's one block is its whole array. -/
theorem read_q (f : Buf (Elt F) ((c : Thread nD τ).loc main_v7)) : (win0_0.blk t0_0).view.read (Elt F) f = f :=
  Memref.read_access_unit_zero (Elt F) main_v7
    (show (fun a => (win0_0.index t0_0) a * main_v7.ty.shape.size a) = fun _ => 0 from
      funext fun a => by fin_cases a <;> decide) (fun a => by fin_cases a <;> decide) f
theorem read_s (f : Buf (Elt F) ((c : Thread nD τ).loc main_v8)) : (win0_1.blk t0_0).view.read (Elt F) f = f :=
  Memref.read_access_unit_zero (Elt F) main_v8
    (show (fun a => (win0_1.index t0_0) a * main_v8.ty.shape.size a) = fun _ => 0 from
      funext fun a => by fin_cases a <;> decide) (fun a => by fin_cases a <;> decide) f
theorem read_o (f : Buf (Elt F) ((c : Thread nD τ).loc main_v9)) : (win0_2.blk t0_0).view.read (Elt F) f = f :=
  Memref.read_access_unit_zero (Elt F) main_v9
    (show (fun a => (win0_2.index t0_0) a * main_v9.ty.shape.size a) = fun _ => 0 from
      funext fun a => by fin_cases a <;> decide) (fun a => by fin_cases a <;> decide) f

theorem iblk_q : iblk m c 0 t0_0 = V m c main_v7 := by
  show (win0_0.blk t0_0).view.read (Elt F) (V m c main_v7) = _
  exact read_q c _
theorem iblk_s : iblk m c 1 t0_0 = V m c main_v8 := by
  show (win0_1.blk t0_0).view.read (Elt F) (V m c main_v8) = _
  exact read_s c _

theorem flushed_o : (dats m 0 c).flushed 2 t0_0 = out0_2 (V m c main_v7) (V m c main_v8) := by
  show (cfg0.win 2).cut _ ((dats m 0 c).after 2 t0_0) = _
  rw [after0_2, iblk_q, iblk_s]
  exact funext fun _ => rfl

theorem arrAt_o : (dats m 0 c).arrAt 2 cfg0.N = out0_2 (V m c main_v7) (V m c main_v8) := by
  have hw : ((cfg0.win 2).blk t0_0).view.read (Elt F) ((dats m 0 c).arrAt 2 cfg0.N) = (dats m 0 c).flushed 2 t0_0 := by
    rw [show cfg0.N = t0_0.val + 1 from rfl, (dats m 0 c).arrAt_succ (2 : Fin 3) t0_0, flush0_2, if_pos rfl]
    exact View.read_write_univ _ _
  rw [flushed_o] at hw
  exact (read_o c _).symm.trans hw

/-- The result: the last step's arithmetic of the quantised product and the scale. -/
def out (a : FVec F S4096x4096 .bf16) (b : FVec F S4096x8192 .bf16) : FVec F S4096x8192 .bf16 :=
  k0_pay1 (quant (prod a b)) (shapeCast S1x1 (scale (prod a b)) shapeCasts_S_S1x1)

theorem zeros : (![0, 0] : Fin 2 → Nat) = fun _ => 0 := funext fun a => by fin_cases a <;> rfl
theorem out_eq : out0_2 (V m c main_v7) (V m c main_v8) = out (argA m c) (argB m c) := by
  unfold out0_2 out
  rw [View.canon_unit_zero zeros, View.ld_unit_zero zeros, View.ld_unit_zero zeros, V_q, V_s]

theorem run_value : θ_run defs (onTc (τ := τ) (main (F := F))) ⟨m, fun _ => 0, ρ⟩ (fun r => ∀ c : Dev nD,
    r.2.mem ((c.tc : Thread nD τ).loc main_v9) = out (argA m c) (argB m c)) :=
  (θ_run defs _ _).mono (fun r h c => ((h c).1 2).trans ((arrAt_o m c).trans (out_eq m c))) (run_main m ρ)

end Cert.RefValue

end
-- ==== Proof.Value.RefResult.lean ====
/-
  The reference's result at an index, on extended reals: the product's element divided by the scale, clipped and
  multiplied by the scale, where the scale is the product's largest absolute value over 448.
-/
module

public import proofs.«01_k».proof.Proof.Value.RefRun
public import proofs.«01_k».proof.Proof.Value.Scalar
public import Idealize.ShloMosaic.PureOps.Ideal.Laws
public import Idealize.ShloMosaic.Lib.MatmulPlain
public import Idealize.ShloMosaic.Lib.StackMember
public import Idealize.ShloMosaic.Lib.ValueLayout
public import Idealize.ShloMosaic.Lib.ValueIdx
public import Idealize.ShloMosaic.Lib.IdealHost

@[expose] public section

set_option maxRecDepth 16384

noncomputable section

namespace Cert.RefValue

open Cert.Value
open Cert.ReferenceIdeal Cert.ReferenceIdeal.Gen
open Idealize.ShloMosaic Idealize.ShloMosaic.TcCoe Idealize.ShloMosaic.ValueIdx
open scoped BigOperators

theorem prod_apply (a : FVec Ideal S4096x4096 .bf16) (b : FVec Ideal S4096x8192 .bf16) (r : Fin 4096) (j : Fin 8192) :
    prod a b (ix2 r j) = ∑ k : Fin 4096, (a (ix2 r k) * b (ix2 k j) : EReal) := by
  unfold prod
  exact Idealize.ShloMosaic.StackMember.dotGeneral_plain_apply (m := 4096) (n := 8192) (k := 4096) none a b r j

theorem fold_le {ι : Type} (s : Finset ι) (f : ι → EReal) (z : EReal) :
    s.fold (FloatOps.maximumf (F := Ideal) (φ := .f32)) (⊥ : EReal) f ≤ z ↔ ∀ i ∈ s, f i ≤ z := by
  have e : s.fold (FloatOps.maximumf (F := Ideal) (φ := .f32)) (⊥ : EReal) f = s.fold max (⊥ : EReal) f := (rfl)
  rw [e, Finset.fold_max_le]
  simp

theorem absf_apply (p : FVec Ideal S4096x8192 .f32) (i : S4096x8192.Idx) : Host.absf p i = mag (p i) := (rfl)

/-- The largest absolute value is bounded by exactly the bounds of all of them. -/
theorem amax_le (p : FVec Ideal S4096x8192 .f32) (z : EReal) : amax p ix0 ≤ z ↔ ∀ i, mag (p i) ≤ z := by
  unfold amax
  rw [Host.reduce_eq_fold]
  have e : (constant S_ .f32 0xFF800000#32 : FVec Ideal S_ .f32) (Shape.Idx.first h_S_) = (⊥ : EReal) := ofBits_bot
  rw [e, fold_le]
  constructor
  · intro H i
    have h := H i (Finset.mem_filter.mpr ⟨Finset.mem_univ _, funext fun a => a.elim0⟩)
    rw [absf_apply] at h
    exact h
  · intro H i _
    rw [absf_apply]
    exact H i

theorem c448_apply : (constant S_ .f32 0x43E00000#32 : FVec Ideal S_ .f32) ix0 = ((448 : ℝ) : EReal) := ofBits_448
theorem cm448_apply : (constant S_ .f32 0xC3E00000#32 : FVec Ideal S_ .f32) ix0 = ((-448 : ℝ) : EReal) := ofBits_neg_448

theorem scale_apply (p : FVec Ideal S4096x8192 .f32) : scale p ix0 = Ideal.div (amax p ix0) ((448 : ℝ) : EReal) := by
  unfold scale
  rw [hostDivf_apply, c448_apply]

theorem convert_apply (x : FVec Ideal S4096x8192 .f32) (i : S4096x8192.Idx) :
    (Host.convertf .fp8e4m3 x : FVec Ideal S4096x8192 .fp8e4m3) i = x i := (rfl)

theorem quant_apply (p : FVec Ideal S4096x8192 .f32) (i : S4096x8192.Idx) :
    quant p i = clip (Ideal.div (p i) (Ideal.div (amax p ix0) ((448 : ℝ) : EReal))) := by
  unfold quant
  rw [convert_apply, minimumf_apply, maximumf_apply, hostDivf_apply, broadcastInDim_scalar_apply, broadcastInDim_scalar_apply,
    broadcastInDim_scalar_apply, scale_apply, c448_apply, cm448_apply]
  unfold clip
  with_reducible rfl

/-- The scale as the last step reads it. -/
theorem scale_cast (x : FVec Ideal S_ .f32) (i : S1x1.Idx) : shapeCast S1x1 x shapeCasts_S_S1x1 i = x ix0 := by
  unfold shapeCast
  exact congrArg x (funext fun a => a.elim0)

/-- The last step at an index. -/
theorem last_apply (q : Vec Ideal S4096x8192 .fp8e4m3) (s : Vec Ideal S1x1 .f32) (g : EReal) (h : ∀ i, s i = g) (i : S4096x8192.Idx) :
    k0_pay1 q s i = (q i * g : EReal) := by
  unfold k0_pay1
  rw [shapeCast_self, shapeCast_self]
  refine (truncf_apply (ψ := .bf16) _ bitsLt_bf16_f32 i).trans ((mulf_apply _ _ i).trans ?_)
  have e : broadcastTo S4096x8192 s broadcasts_S1x1_S4096x8192 i = g := by unfold broadcastTo; exact h _
  rw [e, extf_apply]

/-- The result at an index. -/
theorem out_apply (a : FVec Ideal S4096x4096 .bf16) (b : FVec Ideal S4096x8192 .bf16) (i : S4096x8192.Idx) :
    out a b i = deq (amax (prod a b) ix0) (prod a b i) := by
  unfold out
  rw [last_apply _ _ _ (scale_cast _), quant_apply, scale_apply]
  exact (deq_eq _ _ ((amax_le _ _).mp le_rfl i)).symm

end Cert.RefValue

end
-- ==== Proof.Value.Agree.lean ====
/-
  The two results are one: when each device holds its rows of the reference's left operand and the whole right operand,
  the kernel's result on device `c` is block `c` of the columns of the reference's result.
-/
module

public import proofs.«01_k».proof.Proof.Value.Result
public import proofs.«01_k».proof.Proof.Value.RefResult
public import Idealize.ShloMosaic.Lib.Layout

@[expose] public section

set_option maxRecDepth 16384

noncomputable section

namespace Cert.Value

open Cert.KernelIdeal Cert.KernelIdeal.Gen Cert.KernelIdeal.Run
open Idealize.ShloMosaic Idealize.ShloMosaic.TcCoe Idealize.ShloMosaic.ValueIdx
open scoped BigOperators

variable (m : (ℓ : Loc nD τ sig) → Buf (Elt Ideal) ℓ)
variable (a : FVec Ideal ⟨2, ![4096, 4096]⟩ .bf16) (b : FVec Ideal ⟨2, ![4096, 8192]⟩ .bf16)

/-- The devices hold the reference's operands: the left one cut along its rows, the right one whole. -/
def Holds : Prop := ∀ c : Dev nD, xA m c = Layout.block ⟨2, ![1024, 4096]⟩ ⟨2, ![4096, 4096]⟩ 0 4 c a ∧ wA m c = b

variable {m a b}

theorem row_lt (d : Dev nD) (r : Fin 1024) : d.val * 1024 + r.val < 4096 := by
  have : d.val < 4 := d.isLt
  omega

/-- A device's rows of the product are rows of the reference's product. -/
theorem Y_prod (H : Holds m a b) (d : Dev nD) (r : Fin 1024) (j : Fin 8192) :
    Y m d (ix2 r j) = Cert.RefValue.prod a b (ix2 ⟨d.val * 1024 + r.val, row_lt d r⟩ j) := by
  rw [Y_apply, Cert.RefValue.prod_apply, (H d).1, (H d).2]
  refine Finset.sum_congr rfl fun k _ => ?_
  refine congrArg (fun x : EReal => x * (b (ix2 k j) : EReal)) ?_
  rw [Layout.block_apply]
  refine congrArg a (funext fun x => Fin.ext ?_)
  match x with
  | ⟨0, _⟩ => rfl
  | ⟨1, _⟩ => rfl

/-- The overall maximum on every device is the reference's. -/
theorem amAll_amax (H : Holds m a b) (c : Dev nD) : amAll m c = Cert.RefValue.amax (Cert.RefValue.prod a b) ix0 := by
  refine eq_of_forall_ge_iff fun z => ?_
  rw [amAll_le, Cert.RefValue.amax_le]
  constructor
  · rintro ⟨-, h⟩ i
    obtain ⟨r, j, rfl⟩ : ∃ (r : Fin 4096) (j : Fin 8192), i = ix2 r j := ⟨i 0, i 1, eq_ix2 i⟩
    have h' := h (⟨r.val / 1024, by show r.val / 1024 < 4; omega⟩ : Dev nD) ⟨r.val % 1024, by omega⟩ j
    rw [Y_prod H] at h'
    have e : (⟨r.val / 1024 * 1024 + r.val % 1024, by omega⟩ : Fin 4096) = r := Fin.ext (by
      show r.val / 1024 * 1024 + r.val % 1024 = r.val
      omega)
    rw [e] at h'
    exact h'
  · intro h
    refine ⟨(mag_nonneg _).trans (h (ix2 0 0)), fun d r j => ?_⟩
    rw [Y_prod H]
    exact h _

/-- THE VALUE: the kernel's result on a device is its block of the reference's result. -/
theorem O_block (H : Holds m a b) (c : Dev nD) :
    O m c = Layout.block ⟨2, ![4096, 2048]⟩ ⟨2, ![4096, 8192]⟩ 1 4 c (Cert.RefValue.out a b) := by
  funext i
  obtain ⟨r, j, rfl⟩ : ∃ (r : Fin 4096) (j : Fin 2048), i = ix2 r j := ⟨i 0, i 1, eq_ix2 i⟩
  rw [O_apply, Layout.block_apply, Cert.RefValue.out_apply, Y_prod H, amAll_amax H]
  refine congrArg (deq _) (congrArg (Cert.RefValue.prod a b) (funext fun x => Fin.ext ?_))
  match x with
  | ⟨0, _⟩ => show r.val / 1024 * 1024 + r.val % 1024 = r.val; omega
  | ⟨1, _⟩ => show 2048 * c.val + j.val = c.val * 2048 + j.val; omega

end Cert.Value

end
-- ==== Proof.lean ====
/-
  The proof of `Cert.Claim`: the kernel, its idealization and the reference run without fault, end with their arguments
  unchanged and every semaphore at zero; the idealization is the kernel's own; and on extended reals each device's result
  is its block of columns of the reference's result.

  The kernel's run is proved in `Proof/Kernel` and, the same text, in `Proof/KernelIdeal` (`run_value`: it also says what
  the result array holds); the reference's in `Proof/Value/RefRun`; the equation of the two results in `Proof/Value/Agree`.
-/
module

public import proofs.«01_k».proof.Defs
public import proofs.«01_k».proof.Proof.Kernel.Main
public import proofs.«01_k».proof.Proof.KernelIdeal.Main
public import proofs.«01_k».proof.Proof.Value.Agree

@[expose] public section

noncomputable section

namespace Cert.Proof

open Idealize.ShloMosaic Idealize.ShloMosaic.TcCoe Idealize.SL.Sem

theorem quiescent_kernel : Cert.quiescent_Kernel (hKernel := Cert.Kernel.Gen.facts) := fun m g _ =>
  (θ_run (Cert.Kernel.defs (F := Bits)) _ _).mono (fun _ h => ⟨fun c => ⟨(h.1 c).1, (h.1 c).2.1⟩, h.2⟩) (Cert.Kernel.Run.run_value m g)

theorem quiescent_kernelIdeal : Cert.quiescent_KernelIdeal (hKernelIdeal := Cert.KernelIdeal.Gen.facts) := fun m g _ =>
  (θ_run (Cert.KernelIdeal.defs (F := Ideal)) _ _).mono (fun _ h => ⟨fun c => ⟨(h.1 c).1, (h.1 c).2.1⟩, h.2⟩)
    (Cert.KernelIdeal.Run.run_value m g)

theorem quiescent_referenceIdeal : Cert.quiescent_ReferenceIdeal (hReferenceIdeal := Cert.ReferenceIdeal.Gen.facts) := fun m g _ =>
  Cert.ReferenceIdeal.Gen.frame m g

/-- The value claim: both runs, the kernel's result on each device its block of the reference's. -/
theorem algebraic : Cert.algebraic_KernelIdeal_ReferenceIdeal (hKernelIdeal := Cert.KernelIdeal.Gen.facts)
    (hReferenceIdeal := Cert.ReferenceIdeal.Gen.facts) := fun m g m' g' _ hagree =>
  ⟨Cert.RefValue.out (Cert.RefValue.argA m' 0) (Cert.RefValue.argB m' 0),
    (θ_run (Cert.KernelIdeal.defs (F := Ideal)) _ _).mono
      (fun _ h c => ⟨(h.1 c).2.2.trans (Cert.Value.O_block (fun c => hagree c) c), (h.1 c).1, (h.1 c).2.1⟩)
      (Cert.KernelIdeal.Run.run_value m g),
    (θ_run (Cert.ReferenceIdeal.defs (F := Ideal)) _ _).mono
      (fun _ h => ⟨h.1 0, (h.2.1 0).1, (h.2.1 0).2⟩)
      (θ_run_and (Cert.RefValue.run_value m' g') (Cert.ReferenceIdeal.Gen.frame m' g'))⟩

theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
